-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "log2e_8" .f32 0x3E38AA3B#32 (((8 * (Real.log 2))⁻¹ : ℝ) : EReal)
  ∧ IdealRules.named_const.Statement Cert.Kernel2Ideal.κ "log2e" .f32 0x3FB8AA3B#32 (((Real.log 2)⁻¹ : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
-- ==== Pre_finite.lean ====
abbrev S4x4096x1024 : Shape := ⟨3, ![4, 4096, 1024]⟩
abbrev S1x1024 : Shape := ⟨2, ![1, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S_ : Shape := ⟨0, ![]⟩
abbrev S1x1024x2048 : Shape := ⟨3, ![1, 1024, 2048]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x6144_S1x1024x2048_0_0_2048 : S1x1024x6144.Slices ![0, 0, 2048] S1x1024x2048
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn {F : FTy → Type} [FloatOps F] (main_arg0 : FVec F S4x4096x1024 .f32) (main_arg1 : FVec F S1x1024 .f32) (main_arg2 : FVec F S1x1024x6144 .f32) (main_arg3 : FVec F S1x2048 .f32) (main_arg4 : FVec F S1x2048 .f32) (main_arg5 : FVec F S1x16x128x128 .f32) (main_arg6 : FVec F S1x16x128 .f32) (main_arg7 : FVec F S1x2048x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x2048 .f32 := (extractStridedSlice S1x1024x2048 ![0, 0, 2048] · slices_S1x1024x6144_S1x1024x2048_0_0_2048) main_arg2
  let main_v5 : FVec F S1x1024x2048 .f32 := Host.absf main_v4
  let main_cst_0 : FVec F S_ .f32 := constant S_ .f32 0x7F800000#32
  let main_v6 : FVec F S1x1024x2048 .f32 := broadcastInDim S1x1024x2048 ![] bcast_S_S1x1024x2048 main_cst_0
  let main_v7 : IVec S1x1024x2048 1 := cmpf .olt main_v5 main_v6
  let main_c_1 : IVec S_ 1 := constantI S_ 1 1#1
  let main_v8 : IVec S_ 1 := (fun x v => Host.reduce IntOp.andi x v reducesTo_S1x1024x2048_S_d0_1_2 h_S_) main_v7 main_c_1
  let main_v9 : IVec S_ 1 := andi main_v3 main_v8
  main_v9
-- ==== Kernel.lean ====
abbrev S4x4096x1024 : Shape := ⟨3, ![4, 4096, 1024]⟩
abbrev S1x1024 : Shape := ⟨2, ![1, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S16384x1024 : Shape := ⟨2, ![16384, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x1024 : Shape := ⟨2, ![1024, 1024]⟩
abbrev S1024x2048 : Shape := ⟨2, ![1024, 2048]⟩
abbrev S8x16x6144 : Shape := ⟨3, ![8, 16, 6144]⟩
abbrev S8 : Shape := ⟨1, ![8]⟩
abbrev S1 : Shape := ⟨1, ![1]⟩
abbrev S_ : Shape := ⟨0, ![]⟩
abbrev S1x16x6144 : Shape := ⟨3, ![1, 16, 6144]⟩
abbrev S16x6144 : Shape := ⟨2, ![16, 6144]⟩
abbrev S8x128x1024 : Shape := ⟨3, ![8, 128, 1024]⟩
abbrev S1x128x1024 : Shape := ⟨3, ![1, 128, 1024]⟩
abbrev S128x1024 : Shape := ⟨2, ![128, 1024]⟩
abbrev S128x128 : Shape := ⟨2, ![128, 128]⟩
abbrev S1x128x128 : Shape := ⟨3, ![1, 128, 128]⟩
abbrev S1x128 : Shape := ⟨2, ![1, 128]⟩
abbrev S1024x1 : Shape := ⟨2, ![1024, 1]⟩
abbrev S1024x128 : Shape := ⟨2, ![1024, 128]⟩
abbrev S1024x512 : Shape := ⟨2, ![1024, 512]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x6144, .f32⟩
  | .hbm, ⟨3, _⟩ => ⟨S1x2048, .f32⟩
  | .hbm, ⟨4, _⟩ => ⟨S1x2048, .f32⟩
  | .hbm, ⟨5, _⟩ => ⟨S1x16x128x128, .f32⟩
  | .hbm, ⟨6, _⟩ => ⟨S1x16x128, .f32⟩
  | .hbm, ⟨7, _⟩ => ⟨S1x2048x1024, .f32⟩
  | .hbm, ⟨8, _⟩ => ⟨S16384x1024, .f32⟩
  | .hbm, ⟨9, _⟩ => ⟨S1024, .f32⟩
  | .hbm, ⟨10, _⟩ => ⟨S1x1024, .f32⟩
  | .hbm, ⟨11, _⟩ => ⟨S1024x6144, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16x128x128, .f32⟩
  | .hbm, ⟨17, _⟩ => ⟨S16x128, .f32⟩
  | .hbm, ⟨18, _⟩ => ⟨S2048x1024, .f32⟩
  | .hbm, ⟨19, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x2048, .f32⟩
  | .local _ .vmem, ⟨4, _⟩ => ⟨S1x2048, .f32⟩
  | .local _ .vmem, ⟨5, _⟩ => ⟨S16x128x128, .f32⟩
  | .local _ .vmem, ⟨6, _⟩ => ⟨S16x128, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | .local _ .vmem, ⟨10, _⟩ => ⟨S1024x6144, .bf16⟩
  | .local _ .vmem, ⟨11, _⟩ => ⟨S2048x1024, .bf16⟩
  | .local _ .vmem, ⟨12, _⟩ => ⟨S16x128x128, .bf16⟩
  | .local _ .vmem, ⟨13, _⟩ => ⟨S16x128x128, .f32⟩
  | .local _ .vmem, ⟨14, _⟩ => ⟨S8x16x6144, .f32⟩
  | .local _ .vmem, ⟨15, _⟩ => ⟨S8x128x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scoped0 : Ref sig .tc := ⟨.vmem, 14, rfl⟩
abbrev cc0_scoped2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4096x1024 : Shape := ⟨3, ![4, 4096, 1024]⟩
abbrev S1x1024 : Shape := ⟨2, ![1, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S4x4096x6144 : Shape := ⟨3, ![4, 4096, 6144]⟩
abbrev S4x4096x2048 : Shape := ⟨3, ![4, 4096, 2048]⟩
abbrev S1x1x2048 : Shape := ⟨3, ![1, 1, 2048]⟩
abbrev S4x32x128x16x128 : Shape := ⟨5, ![4, 32, 128, 16, 128]⟩
abbrev S128x128 : Shape := ⟨2, ![128, 128]⟩
abbrev S1x128x128 : Shape := ⟨3, ![1, 128, 128]⟩
abbrev S16x4x32x128x128 : Shape := ⟨5, ![16, 4, 32, 128, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S16384x1024 : Shape := ⟨2, ![16384, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x6144, .f32⟩
  | .hbm, ⟨3, _⟩ => ⟨S1x2048, .f32⟩
  | .hbm, ⟨4, _⟩ => ⟨S1x2048, .f32⟩
  | .hbm, ⟨5, _⟩ => ⟨S1x16x128x128, .f32⟩
  | .hbm, ⟨6, _⟩ => ⟨S1x16x128, .f32⟩
  | .hbm, ⟨7, _⟩ => ⟨S1x2048x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1024x6144, .f32⟩
  | .hbm, ⟨26, _⟩ => ⟨S2048, .f32⟩
  | .hbm, ⟨27, _⟩ => ⟨S2048, .f32⟩
  | .hbm, ⟨28, _⟩ => ⟨S16x128x128, .f32⟩
  | .hbm, ⟨29, _⟩ => ⟨S16x128, .f32⟩
  | .hbm, ⟨30, _⟩ => ⟨S2048x1024, .f32⟩
  | .hbm, ⟨31, _⟩ => ⟨S4x4096x6144, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S1x1x2048, .f32⟩
  | .hbm, ⟨60, _⟩ => ⟨S4x4096x2048, .f32⟩
  | .hbm, ⟨61, _⟩ => ⟨S4x4096x2048, .f32⟩
  | .hbm, ⟨62, _⟩ => ⟨S4x32x128x16x128, .f32⟩
  | .hbm, ⟨63, _⟩ => ⟨S_, .i1⟩
  | .hbm, ⟨64, _⟩ => ⟨S128x128, .i1⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S1x128x128, .i1⟩
  | .hbm, ⟨75, _⟩ => ⟨S_, .f32⟩
  | .hbm, ⟨76, _⟩ => ⟨S16x128x128, .f32⟩
  | .hbm, ⟨77, _⟩ => ⟨S16x128x128, .i1⟩
  | .hbm, ⟨78, _⟩ => ⟨S16x128x128, .f32⟩
  | .hbm, ⟨79, _⟩ => ⟨S16x4x32x128x128, .f32⟩
  | .hbm, ⟨80, _⟩ => ⟨S4x32x128x16x128, .f32⟩
  | .hbm, ⟨81, _⟩ => ⟨S128x16, .f32⟩
  | .hbm, ⟨82, _⟩ => ⟨S128x16x1, .f32⟩
  | .hbm, ⟨83, _⟩ => ⟨S1x1x128x16x1, .f32⟩
  | .hbm, ⟨84, _⟩ => ⟨S4x32x128x16x128, .f32⟩
  | .hbm, ⟨85, _⟩ => ⟨S4x32x128x16x128, .f32⟩
  | .hbm, ⟨86, _⟩ => ⟨S4x4096x2048, .f32⟩
  | .hbm, ⟨87, _⟩ => ⟨S4x4096x2048, .f32⟩
  | .hbm, ⟨88, _⟩ => ⟨S4x4096x2048, .f32⟩
  | .hbm, ⟨89, _⟩ => ⟨S4x4096x2048, .f32⟩
  | .hbm, ⟨90, _⟩ => ⟨S_, .f32⟩
  | .hbm, ⟨91, _⟩ => ⟨S4x4096x2048, .f32⟩
  | .hbm, ⟨92, _⟩ => ⟨S4x4096x2048, .f32⟩
  | .hbm, ⟨93, _⟩ => ⟨S_, .f32⟩
  | .hbm, ⟨94, _⟩ => ⟨S4x4096x2048, .f32⟩
  | .hbm, ⟨95, _⟩ => ⟨S4x4096x2048, .f32⟩
  | .hbm, ⟨96, _⟩ => ⟨S4x4096x2048, .f32⟩
  | .hbm, ⟨97, _⟩ => ⟨S4x4096x2048, .f32⟩
  | .hbm, ⟨98, _⟩ => ⟨S4x4096x1024, .f32⟩
  | .hbm, ⟨99, _⟩ => ⟨S4x4096x1024, .f32⟩
  | .hbm, ⟨100, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c : Ref sig .tc := ⟨.hbm, 63, rfl⟩
abbrev main_v47 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x256 : Shape := ⟨2, ![1024, 256]⟩
abbrev S256 : Shape := ⟨1, ![256]⟩
abbrev S1x1024 : Shape := ⟨2, ![1, 1024]⟩
abbrev S1x1024x2048 : Shape := ⟨3, ![1, 1024, 2048]⟩
abbrev S1x16 : Shape := ⟨2, ![1, 16]⟩
abbrev S1x1024x1024 : Shape := ⟨3, ![1, 1024, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16 : Shape := ⟨1, ![16]⟩
abbrev S1x256 : Shape := ⟨2, ![1, 256]⟩
abbrev S1024x2048 : Shape := ⟨2, ![1024, 2048]⟩
abbrev S1024x1024 : Shape := ⟨2, ![1024, 1024]⟩
abbrev S256x1024 : Shape := ⟨2, ![256, 1024]⟩
abbrev S256x128 : Shape := ⟨2, ![256, 128]⟩
abbrev S2x4x128x384 : Shape := ⟨4, ![2, 4, 128, 384]⟩
abbrev S2x4x384x256 : Shape := ⟨4, ![2, 4, 384, 256]⟩
abbrev S2x256x1024 : Shape := ⟨3, ![2, 256, 1024]⟩
abbrev S128x1024 : Shape := ⟨2, ![128, 1024]⟩
abbrev S1024x128 : Shape := ⟨2, ![1024, 128]⟩
abbrev S2x512x256 : Shape := ⟨3, ![2, 512, 256]⟩
abbrev S2 : Shape := ⟨1, ![2]⟩
abbrev S16x64x2048 : Shape := ⟨3, ![16, 64, 2048]⟩
abbrev S8x128x1024 : Shape := ⟨3, ![8, 128, 1024]⟩
abbrev S8 : Shape := ⟨1, ![8]⟩
abbrev S1 : Shape := ⟨1, ![1]⟩
abbrev S1x512x256 : Shape := ⟨3, ![1, 512, 256]⟩
abbrev S512x256 : Shape := ⟨2, ![512, 256]⟩
abbrev S1x64x2048 : Shape := ⟨3, ![1, 64, 2048]⟩
abbrev S64x2048 : Shape := ⟨2, ![64, 2048]⟩
abbrev S1x128x1024 : Shape := ⟨3, ![1, 128, 1024]⟩
abbrev S512x1 : Shape := ⟨2, ![512, 1]⟩
abbrev S64x1 : Shape := ⟨2, ![64, 1]⟩
abbrev S4x128x384 : Shape := ⟨3, ![4, 128, 384]⟩
abbrev S1x4x128x384 : Shape := ⟨4, ![1, 4, 128, 384]⟩
abbrev S4x384x256 : Shape := ⟨3, ![4, 384, 256]⟩
abbrev S1x4x384x256 : Shape := ⟨4, ![1, 4, 384, 256]⟩
abbrev S1x256x1024 : Shape := ⟨3, ![1, 256, 1024]⟩
abbrev S4x128x128 : Shape := ⟨3, ![4, 128, 128]⟩
abbrev S1x4x128x128 : Shape := ⟨4, ![1, 4, 128, 128]⟩
abbrev S4x128x256 : Shape := ⟨3, ![4, 128, 256]⟩
abbrev S1x4x128x256 : Shape := ⟨4, ![1, 4, 128, 256]⟩
abbrev S256x1 : Shape := ⟨2, ![256, 1]⟩
abbrev S128x256 : Shape := ⟨2, ![128, 256]⟩
abbrev S128x128 : Shape := ⟨2, ![128, 128]⟩
abbrev S16x256 : Shape := ⟨2, ![16, 256]⟩
abbrev S1x128x128 : Shape := ⟨3, ![1, 128, 128]⟩
abbrev S512x128 : Shape := ⟨2, ![512, 128]⟩
abbrev S1x1x128x256 : Shape := ⟨4, ![1, 1, 128, 256]⟩
abbrev S256x256 : Shape := ⟨2, ![256, 256]⟩
abbrev S64x256 : Shape := ⟨2, ![64, 256]⟩
abbrev S1x1x256x256 : Shape := ⟨4, ![1, 1, 256, 256]⟩
abbrev S1x256x128 : Shape := ⟨3, ![1, 256, 128]⟩
abbrev S128 : Shape := ⟨1, ![128]⟩
abbrev S128x1 : Shape := ⟨2, ![128, 1]⟩
abbrev S1x1x16x256 : Shape := ⟨4, ![1, 1, 16, 256]⟩
abbrev S1x1x240x256 : Shape := ⟨4, ![1, 1, 240, 256]⟩
abbrev S240x256 : Shape := ⟨2, ![240, 256]⟩
abbrev S1x256x256 : Shape := ⟨3, ![1, 256, 256]⟩
abbrev S256x512 : Shape := ⟨2, ![256, 512]⟩
abbrev S512x1024 : Shape := ⟨2, ![512, 1024]⟩

abbrev nBuf : Space → Nat
  | .hbm => 52
  | .vmem => 26
  | .smem => 1
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .f32⟩
  | .hbm, ⟨3, _⟩ => ⟨S256, .f32⟩
  | .hbm, ⟨4, _⟩ => ⟨S1x1024, .f32⟩
  | .hbm, ⟨5, _⟩ => ⟨S1x1024x2048, .f32⟩
  | .hbm, ⟨6, _⟩ => ⟨S1x1024, .f32⟩
  | .hbm, ⟨7, _⟩ => ⟨S1x16, .f32⟩
  | .hbm, ⟨8, _⟩ => ⟨S1x1024x1024, .f32⟩
  | .hbm, ⟨9, _⟩ => ⟨S1024, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S4096x32, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S16, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1x256, .f32⟩
  | .hbm, ⟨46, _⟩ => ⟨S1024x2048, .f32⟩
  | .hbm, ⟨47, _⟩ => ⟨S1024, .f32⟩
  | .hbm, ⟨48, _⟩ => ⟨S1x1024, .f32⟩
  | .hbm, ⟨49, _⟩ => ⟨S1024x1024, .f32⟩
  | .hbm, ⟨50, _⟩ => ⟨S1x1024, .f32⟩
  | .hbm, ⟨51, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x256, .f32⟩
  | .local _ .vmem, ⟨7, _⟩ => ⟨S1x1024, .f32⟩
  | .local _ .vmem, ⟨8, _⟩ => ⟨S1x1024, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x1024, .f32⟩
  | .local _ .vmem, ⟨14, _⟩ => ⟨S256x1024, .f32⟩
  | .local _ .vmem, ⟨15, _⟩ => ⟨S2x4x128x384, .bf16⟩
  | .local _ .vmem, ⟨16, _⟩ => ⟨S2x4x384x256, .bf16⟩
  | .local _ .vmem, ⟨17, _⟩ => ⟨S2x256x1024, .bf16⟩
  | .local _ .vmem, ⟨18, _⟩ => ⟨S2x256x1024, .f32⟩
  | .local _ .vmem, ⟨19, _⟩ => ⟨S256x1024, .bf16⟩
  | .local _ .vmem, ⟨20, _⟩ => ⟨S1024x256, .bf16⟩
  | .local _ .vmem, ⟨21, _⟩ => ⟨S1024x2048, .bf16⟩
  | .local _ .vmem, ⟨22, _⟩ => ⟨S1024x1024, .bf16⟩
  | .local _ .vmem, ⟨23, _⟩ => ⟨S2x512x256, .f32⟩
  | .local _ .vmem, ⟨24, _⟩ => ⟨S16x64x2048, .f32⟩
  | .local _ .vmem, ⟨25, _⟩ => ⟨S8x128x1024, .f32⟩
  | .local _ .smem, ⟨0, _⟩ => ⟨S16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scoped0 : Ref sig .tc := ⟨.vmem, 23, rfl⟩
abbrev cc0_scoped2 : Ref sig .tc := ⟨.vmem, 24, rfl⟩
abbrev cc0_scoped4 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond6 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
variable {F : FTy → Type} [FloatOps F] [Named F]
def κ : String → Option EReal := fun
  | "log2e" => some (((Real.log 2)⁻¹ : ℝ) : EReal)
  | "log2e_8" => some (((8 * (Real.log 2))⁻¹ : ℝ) : EReal)
  | _ => none
-- ==== Reference2Ideal.lean ====
abbrev S16384x1024 : Shape := ⟨2, ![16384, 1024]⟩
abbrev S1024 : Shape := ⟨1, ![1024]⟩
abbrev S1024x256 : Shape := ⟨2, ![1024, 256]⟩
abbrev S256 : Shape := ⟨1, ![256]⟩
abbrev S1x1024 : Shape := ⟨2, ![1, 1024]⟩
abbrev S1x1024x2048 : Shape := ⟨3, ![1, 1024, 2048]⟩
abbrev S1x16 : Shape := ⟨2, ![1, 16]⟩
abbrev S1x1024x1024 : Shape := ⟨3, ![1, 1024, 1024]⟩
abbrev S4096 : Shape := ⟨1, ![4096]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x256 : Shape := ⟨3, ![4, 4096, 256]⟩
abbrev S1x1x256 : Shape := ⟨3, ![1, 1, 256]⟩
abbrev S4x4096x128 : Shape := ⟨3, ![4, 4096, 128]⟩
abbrev S4x4096x2x64 : Shape := ⟨4, ![4, 4096, 2, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x2x32 : Shape := ⟨4, ![4, 4096, 2, 32]⟩
abbrev S4x32x128x2x64 : Shape := ⟨5, ![4, 32, 128, 2, 64]⟩
abbrev S4x1x128x2x64 : Shape := ⟨5, ![4, 1, 128, 2, 64]⟩
abbrev S4x31x128x2x64 : Shape := ⟨5, ![4, 31, 128, 2, 64]⟩
abbrev S4x32x256x2x64 : Shape := ⟨5, ![4, 32, 256, 2, 64]⟩
abbrev S1024x2048 : Shape := ⟨2, ![1024, 2048]⟩
abbrev S16 : Shape := ⟨1, ![16]⟩
abbrev S1024x1024 : Shape := ⟨2, ![1024, 1024]⟩
abbrev S4x4096x2048 : Shape := ⟨3, ![4, 4096, 2048]⟩
abbrev S4x4096x16x64 : Shape := ⟨4, ![4, 4096, 16, 64]⟩
abbrev S4x4096x16x32 : Shape := ⟨4, ![4, 4096, 16, 32]⟩
abbrev S4x32x128x2x8x64 : Shape := ⟨6, ![4, 32, 128, 2, 8, 64]⟩
abbrev S4x32x2x256x128x8 : Shape := ⟨6, ![4, 32, 2, 256, 128, 8]⟩
abbrev S4x32x2x8x128x256 : Shape := ⟨6, ![4, 32, 2, 8, 128, 256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S4x32x2x8x128 : Shape := ⟨5, ![4, 32, 2, 8, 128]⟩
abbrev S4x32x2x8x128x1 : Shape := ⟨6, ![4, 32, 2, 8, 128, 1]⟩
abbrev S4x32x2x64x8x128 : Shape := ⟨6, ![4, 32, 2, 64, 8, 128]⟩

abbrev nBuf : Space → Nat
  | .hbm => 251
  | .vmem => 0
  | .smem => 0
  | _ => 0

abbrev hbmTy0_0 (i : Nat) : BufTy := match i % 128 with
  | 0 => ⟨S16384x1024, .f32⟩
  | 1 => ⟨S1024, .f32⟩
  | 2 => ⟨S1024x256, .f32⟩
  | 3 => ⟨S256, .f32⟩
  | 4 => ⟨S1x1024, .f32⟩
  | 5 => ⟨S1x1024x2048, .f32⟩
  | 6 => ⟨S1x1024, .f32⟩
  | 7 => ⟨S1x16, .f32⟩
  | 8 => ⟨S1x1024x1024, .f32⟩
  | 9 => ⟨S1024, .f32⟩
  | 10 => ⟨S4096, .f32⟩
  | 11 => ⟨S4x4096x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x4096x256, .f32⟩
  | 29 => ⟨S1x1x256, .f32⟩
  | 30 => ⟨S4x4096x256, .f32⟩
  | 31 => ⟨S4x4096x256, .f32⟩
  | 32 => ⟨S4x4096x128, .f32⟩
  | 33 => ⟨S4x4096x128, .f32⟩
  | 34 => ⟨S4x4096x2x64, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x32, .f32⟩
  | 55 => ⟨S1x4096x1x32, .f32⟩
  | 56 => ⟨S4096x32, .f32⟩
  | 57 => ⟨S1x4096x1x32, .f32⟩
  | 58 => ⟨S4x4096x2x32, .f32⟩
  | 59 => ⟨S4x4096x2x32, .f32⟩
  | 60 => ⟨S4x4096x2x32, .f32⟩
  | 61 => ⟨S4x4096x2x32, .f32⟩
  | 62 => ⟨S4x4096x2x32, .f32⟩
  | 63 => ⟨S4x4096x2x32, .f32⟩
  | 64 => ⟨S4x4096x2x32, .f32⟩
  | 65 => ⟨S4x4096x2x32, .f32⟩
  | 66 => ⟨S4x4096x2x32, .f32⟩
  | 67 => ⟨S4x4096x2x32, .f32⟩
  | 68 => ⟨S4x4096x2x32, .f32⟩
  | 69 => ⟨S4x4096x2x32, .f32⟩
  | 70 => ⟨S4x4096x2x64, .f32⟩
  | 71 => ⟨S4x32x128x2x64, .f32⟩
  | 72 => ⟨S4x1x128x2x64, .f32⟩
  | 73 => ⟨S_, .f32⟩
  | 74 => ⟨S4x1x128x2x64, .f32⟩
  | 75 => ⟨S4x31x128x2x64, .f32⟩
  | 76 => ⟨S4x32x128x2x64, .f32⟩
  | 77 => ⟨S4x32x256x2x64, .f32⟩
  | 78 => ⟨S4x4096x2x64, .f32⟩
  | 79 => ⟨S4x32x128x2x64, .f32⟩
  | 80 => ⟨S4x1x128x2x64, .f32⟩
  | 81 => ⟨S_, .f32⟩
  | 82 => ⟨S4x1x128x2x64, .f32⟩
  | 83 => ⟨S4x31x128x2x64, .f32⟩
  | 84 => ⟨S4x32x128x2x64, .f32⟩
  | 85 => ⟨S4x32x256x2x64, .f32⟩
  | 86 => ⟨S1024, .f32⟩
  | 87 => ⟨S4x4096x1024, .f32⟩
  | 88 => ⟨S_, .f32⟩
  | 89 => ⟨S4x4096, .f32⟩
  | 90 => ⟨S4x4096x1, .f32⟩
  | 91 => ⟨S_, .f32⟩
  | 92 => ⟨S4x4096x1, .f32⟩
  | 93 => ⟨S4x4096x1, .f32⟩
  | 94 => ⟨S_, .f32⟩
  | 95 => ⟨S4x4096x1, .f32⟩
  | 96 => ⟨S4x4096x1, .f32⟩
  | 97 => ⟨S4x4096x1, .f32⟩
  | 98 => ⟨S4x4096x1024, .f32⟩
  | 99 => ⟨S4x4096x1024, .f32⟩
  | 100 => ⟨S1x1x1024, .f32⟩
  | 101 => ⟨S4x4096x1024, .f32⟩
  | 102 => ⟨S4x4096x1024, .f32⟩
  | 103 => ⟨S1024x2048, .f32⟩
  | 104 => ⟨S1024, .f32⟩
  | 105 => ⟨S16, .f32⟩
  | 106 => ⟨S1024x1024, .f32⟩
  | 107 => ⟨S4x4096x2048, .f32⟩
  | 108 => ⟨S4x4096x1024, .f32⟩
  | 109 => ⟨S4x4096x1024, .f32⟩
  | 110 => ⟨S1x1x1024, .f32⟩
  | 111 => ⟨S4x4096x1024, .f32⟩
  | 112 => ⟨S4x4096x1024, .f32⟩
  | 113 => ⟨S4x4096x16x64, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S16384x1024, .f32⟩

abbrev hbmTy0_1 (i : Nat) : BufTy := match i % 128 with
  | 0 => ⟨S4096x1, .f32⟩
  | 1 => ⟨S1x32, .f32⟩
  | 2 => ⟨S4096x32, .f32⟩
  | 3 => ⟨S4096x32, .f32⟩
  | 4 => ⟨S4096x32, .f32⟩
  | 5 => ⟨S4096x32, .f32⟩
  | 6 => ⟨S1x4096x1x32, .f32⟩
  | 7 => ⟨S4096x32, .f32⟩
  | 8 => ⟨S1x4096x1x32, .f32⟩
  | 9 => ⟨S4x4096x16x32, .f32⟩
  | 10 => ⟨S4x4096x16x32, .f32⟩
  | 11 => ⟨S4x4096x16x32, .f32⟩
  | 12 => ⟨S4x4096x16x32, .f32⟩
  | 13 => ⟨S4x4096x16x32, .f32⟩
  | 14 => ⟨S4x4096x16x32, .f32⟩
  | 15 => ⟨S4x4096x16x32, .f32⟩
  | 16 => ⟨S4x4096x16x32, .f32⟩
  | 17 => ⟨S4x4096x16x32, .f32⟩
  | 18 => ⟨S4x4096x16x32, .f32⟩
  | 19 => ⟨S4x4096x16x32, .f32⟩
  | 20 => ⟨S4x4096x16x32, .f32⟩
  | 21 => ⟨S4x4096x16x64, .f32⟩
  | 22 => ⟨S4x32x128x2x8x64, .f32⟩
  | 23 => ⟨S4x32x2x256x128x8, .f32⟩
  | 24 => ⟨S4x32x2x8x128x256, .f32⟩
  | 25 => ⟨S_, .f32⟩
  | 26 => ⟨S4x32x2x8x128x256, .f32⟩
  | 27 => ⟨S4x32x2x8x128x256, .f32⟩
  | 28 => ⟨S128, .i32⟩
  | 29 => ⟨S128x1, .i32⟩
  | 30 => ⟨S256, .i32⟩
  | 31 => ⟨S1x256, .i32⟩
  | 32 => ⟨S_, .i32⟩
  | 33 => ⟨S1x256, .i32⟩
  | 34 => ⟨S1x256, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S32, .i32⟩
  | 46 => ⟨S32x1, .i32⟩
  | 47 => ⟨S_, .i32⟩
  | 48 => ⟨S32x1, .i32⟩
  | 49 => ⟨S32x1, .i32⟩
  | 50 => ⟨S256, .i32⟩
  | 51 => ⟨S1x256, .i32⟩
  | 52 => ⟨S32x256, .i32⟩
  | 53 => ⟨S32x256, .i32⟩
  | 54 => ⟨S32x256, .i32⟩
  | 55 => ⟨S_, .i32⟩
  | 56 => ⟨S32x256, .i32⟩
  | 57 => ⟨S32x256, .i32⟩
  | 58 => ⟨S_, .i32⟩
  | 59 => ⟨S32x256, .i32⟩
  | 60 => ⟨S32x256, .i1⟩
  | 61 => ⟨S1x128x256, .i1⟩
  | 62 => ⟨S32x1x256, .i1⟩
  | 63 => ⟨S32x128x256, .i1⟩
  | 64 => ⟨S32x128x256, .i1⟩
  | 65 => ⟨S32x128x256, .i1⟩
  | 66 => ⟨S1x32x1x1x128x256, .i1⟩
  | 67 => ⟨S_, .f32⟩
  | 68 => ⟨S_, .f32⟩
  | 69 => ⟨S4x32x2x8x128x256, .i1⟩
  | 70 => ⟨S4x32x2x8x128x256, .f32⟩
  | 71 => ⟨S4x32x2x8x128x256, .f32⟩
  | 72 => ⟨S2x8, .f32⟩
  | 73 => ⟨S1x1x2x8x1x1, .f32⟩
  | 74 => ⟨S_, .f32⟩
  | 75 => ⟨S4x32x2x8x128, .f32⟩
  | 76 => ⟨S4x32x2x8x128x1, .f32⟩
  | 77 => ⟨S4x32x2x8x128x1, .f32⟩
  | 78 => ⟨S4x32x2x8x128x1, .f32⟩
  | 79 => ⟨S4x32x2x8x128x256, .f32⟩
  | 80 => ⟨S4x32x2x8x128x256, .f32⟩
  | 81 => ⟨S4x32x2x8x128x256, .f32⟩
  | 82 => ⟨S_, .f32⟩
  | 83 => ⟨S4x32x2x8x128, .f32⟩
  | 84 => ⟨S4x32x2x8x128x1, .f32⟩
  | 85 => ⟨S4x32x2x8x128x1, .f32⟩
  | 86 => ⟨S4x32x2x8x128x1, .f32⟩
  | 87 => ⟨S4x32x2x8x128x1, .f32⟩
  | 88 => ⟨S4x32x2x8x128x1, .f32⟩
  | 89 => ⟨S4x32x2x8x128x256, .f32⟩
  | 90 => ⟨S4x32x2x8x128x256, .f32⟩
  | 91 => ⟨S4x32x2x64x8x128, .f32⟩
  | 92 => ⟨S4x32x128x2x8x64, .f32⟩
  | 93 => ⟨S4x4096x1024, .f32⟩
  | 94 => ⟨S4x4096x1024, .f32⟩
  | 95 => ⟨S4x4096x1024, .f32⟩
  | 96 => ⟨S_, .f32⟩
  | 97 => ⟨S4x4096x1024, .f32⟩
  | 98 => ⟨S4x4096x1024, .f32⟩
  | 99 => ⟨S_, .f32⟩
  | 100 => ⟨S4x4096x1024, .f32⟩
  | 101 => ⟨S4x4096x1024, .f32⟩
  | 102 => ⟨S4x4096x1024, .f32⟩
  | 103 => ⟨S4x4096x1024, .f32⟩
  | 104 => ⟨S4x4096x1024, .f32⟩
  | 105 => ⟨S4x4096x1024, .f32⟩
  | 106 => ⟨S4x4096x1024, .f32⟩
  | 107 => ⟨S_, .f32⟩
  | 108 => ⟨S4x4096, .f32⟩
  | 109 => ⟨S4x4096x1, .f32⟩
  | 110 => ⟨S_, .f32⟩
  | 111 => ⟨S4x4096x1, .f32⟩
  | 112 => ⟨S4x4096x1, .f32⟩
  | 113 => ⟨S_, .f32⟩
  | 114 => ⟨S4x4096x1, .f32⟩
  | 115 => ⟨S4x4096x1, .f32⟩
  | 116 => ⟨S4x4096x1, .f32⟩
  | 117 => ⟨S4x4096x1024, .f32⟩
  | 118 => ⟨S4x4096x1024, .f32⟩
  | 119 => ⟨S1x1x1024, .f32⟩
  | 120 => ⟨S4x4096x1024, .f32⟩
  | 121 => ⟨S4x4096x1024, .f32⟩
  | 122 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_11 : Ref sig .tc := ⟨.hbm, 115, rfl⟩
abbrev main_v93 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_13 : Ref sig .tc := ⟨.hbm, 122, rfl⟩
abbrev main_v98 : Ref sig .tc := ⟨.hbm, 123, rfl⟩
abbrev main_v99 : Ref sig .tc := ⟨.hbm, 124, rfl⟩
abbrev main_cst_14 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_15 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_c : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_c_16 : Ref sig .tc := ⟨.hbm, 166, rfl⟩
abbrev main_v138 : Ref sig .tc := ⟨.hbm, 167, rfl⟩
abbrev main_v139 : Ref sig .tc := ⟨.hbm, 168, rfl⟩
abbrev main_c_17 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_c_18 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_c_19 : Ref sig .tc := ⟨.hbm, 183, rfl⟩
abbrev main_v152 : Ref sig .tc := ⟨.hbm, 184, rfl⟩
abbrev main_v153 : Ref sig .tc := ⟨.hbm, 185, rfl⟩
abbrev main_c_20 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_21 : Ref sig .tc := ⟨.hbm, 195, rfl⟩
abbrev main_call0_v0 : Ref sig .tc := ⟨.hbm, 196, rfl⟩
abbrev main_call0_v1 : Ref sig .tc := ⟨.hbm, 197, rfl⟩
abbrev main_call0_v2 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_22 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_23 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_call1_v0 : Ref sig .tc := ⟨.hbm, 222, rfl⟩
abbrev main_call1_v1 : Ref sig .tc := ⟨.hbm, 223, rfl⟩
abbrev main_call1_cst : Ref sig .tc := ⟨.hbm, 224, rfl⟩
abbrev main_call1_v2 : Ref sig .tc := ⟨.hbm, 225, rfl⟩
abbrev main_call1_v3 : Ref sig .tc := ⟨.hbm, 226, rfl⟩
abbrev main_call1_cst_0 : Ref sig .tc := ⟨.hbm, 227, rfl⟩
abbrev main_call1_v4 : Ref sig .tc := ⟨.hbm, 228, rfl⟩
abbrev main_call1_v5 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_cst_24 : Ref sig .tc := ⟨.hbm, 235, rfl⟩
abbrev main_v188 : Ref sig .tc := ⟨.hbm, 236, rfl⟩
abbrev main_v189 : Ref sig .tc := ⟨.hbm, 237, rfl⟩
abbrev main_cst_25 : Ref sig .tc := ⟨.hbm, 238, rfl⟩
abbrev main_v190 : Ref sig .tc := ⟨.hbm, 239, rfl⟩
abbrev main_v191 : Ref sig .tc := ⟨.hbm, 240, rfl⟩
abbrev main_cst_26 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩

abbrev nD : Nat := 1
abbrev τ : Topo := Topo.v7x

variable {F : FTy → Type} [FloatOps F]
-- ==== Proof.Setup.lean ====
/- The set-up of the kernel's run: the branch condition in closed form over the grid, the staging and scratch memrefs the pipeline hands
   to the body, the body's own transfer semaphores, and the invariant's conjuncts, for any float values `F`. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2048 .bf16 := Memref.whole cc0_scratch0
abbrev scM0_1 : Memref sig .tc .vmem S1024x6144 .bf16 := Memref.whole cc0_scratch1
abbrev scM0_2 : Memref sig .tc .vmem S2048x1024 .bf16 := Memref.whole cc0_scratch2
abbrev scM0_3 : Memref sig .tc .vmem S16x128x128 .bf16 := Memref.whole cc0_scratch3
abbrev scM0_4 : Memref sig .tc .vmem S16x128x128 .f32 := Memref.whole cc0_scratch4
abbrev scM0_5 : Memref sig .tc .vmem S8x16x6144 .f32 := Memref.whole cc0_scoped0
abbrev scM0_6 : Memref sig .tc .vmem S8x128x1024 .f32 := Memref.whole cc0_scoped2
/-- The scratch `arg11` the kernel carries between points, as a view: what it holds is stated through it. -/
abbrev VS0_1 : View sig .tc .vmem S1024x6144 .bf16 := scM0_1.view
/-- The scratch `arg13` the kernel carries between points, as a view: what it holds is stated through it. -/
abbrev VS0_3 : View sig .tc .vmem S16x128x128 .bf16 := scM0_3.view
/-- The scratch `arg14` the kernel carries between points, as a view: what it holds is stated through it. -/
abbrev VS0_4 : View sig .tc .vmem S16x128x128 .f32 := scM0_4.view
/-- The operands left in HBM that the body copies into scratch itself, whole. -/
abbrev hbM0_0 : Memref sig .tc .hbm S1024x6144 .f32 := Memref.whole main_v3
abbrev hbM0_1 : Memref sig .tc .hbm S2048x1024 .f32 := Memref.whole main_v10
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 16 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 16 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6, 7, 8, 9, 10, 11, 12, 13, 14, 15] (by decide) (by decide)]; rfl
/-- The HBM operands the body moves, as references: unscoped, no window's array (`Pipeline.restRefs`). -/
def H0 : Finset (Ref sig .tc) := {main_v3, main_v10}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v3) ∗ hbPt0 c hbM0_1 (V m c main_v10)) := by
  rw [BI.bigSep_eq_bigSepL_of_eq [main_v3, main_v10] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v3) ∗ hbPt0 c hbM0_1 (V m c main_v10))) := by
  rw [Pipeline.ΦD_eq, scopedRest0_eq, ownSems00_eq, hbmPts0_eq]; simp only [scM0_0, scM0_1, scM0_2, scM0_3, scM0_4, scM0_5, scM0_6, owns_whole]; try rfl

end Cert.KernelIdeal.Hand

end
-- ==== Proof.Load.lean ====
/- The load phase of the first grid point: the sixty-four row chunks of the input projection and the sixteen of the output projection
   travel from HBM through eight slots each into the bf16 weight scratch, and the masked chunk weights and the biases are laid out.
   The run finds the pieces each of the four scratch buffers ends with. -/
module

public import proofs.«01_k».proof.Proof.Setup

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Slot `k` of the ring that carries the input projection's row chunks: its own sixteen rows, as the transfers name it. -/
abbrev slotA (M : Memref sig .tc .vmem S8x16x6144 .f32) (k : ℕ) (h : ∀ a, (![k, 0, 0] : Fin 3 → ℕ) a + S1x16x6144.size a ≤ S8x16x6144.size a) :
    Memref sig .tc .vmem S16x6144 .f32 :=
  (M.slice (Rect.unit (s := S8x16x6144) ![k, 0, 0] S1x16x6144.size h) (fun _ => rfl)).squeeze S16x6144 squeezes_S1x16x6144_S16x6144

/-- Slot `k` of the ring that carries the output projection's row chunks. -/
abbrev slotB (M : Memref sig .tc .vmem S8x128x1024 .f32) (k : ℕ) (h : ∀ a, (![k, 0, 0] : Fin 3 → ℕ) a + S1x128x1024.size a ≤ S8x128x1024.size a) :
    Memref sig .tc .vmem S128x1024 .f32 :=
  (M.slice (Rect.unit (s := S8x128x1024) ![k, 0, 0] S1x128x1024.size h) (fun _ => rfl)).squeeze S128x1024 squeezes_S1x128x1024_S128x1024

/-- The elements of `M`, held at some contents. -/
abbrev anyAt (c : Dev nD) {S : Shape} {e : EltTy} (M : Memref sig .tc .vmem S e) : sProp 𝕄 :=
  iprop(∃ f, M.view.loc (c : Thread nD τ) ↦[M.view.set]{fullShare} f)

/-- The eight slots of the first ring, each held by its own elements at some contents. -/
abbrev ringA (c : Dev nD) (alloca_r0 : Memref sig .tc .vmem S8x16x6144 .f32) : sProp 𝕄 :=
  iprop(anyAt c (slotA alloca_r0 0 inb_S8x16x6144_S1x16x6144_0_0_0) ∗ anyAt c (slotA alloca_r0 1 inb_S8x16x6144_S1x16x6144_1_0_0) ∗ anyAt c (slotA alloca_r0 2 inb_S8x16x6144_S1x16x6144_2_0_0) ∗ anyAt c (slotA alloca_r0 3 inb_S8x16x6144_S1x16x6144_3_0_0) ∗ anyAt c (slotA alloca_r0 4 inb_S8x16x6144_S1x16x6144_4_0_0) ∗ anyAt c (slotA alloca_r0 5 inb_S8x16x6144_S1x16x6144_5_0_0) ∗ anyAt c (slotA alloca_r0 6 inb_S8x16x6144_S1x16x6144_6_0_0) ∗ anyAt c (slotA alloca_r0 7 inb_S8x16x6144_S1x16x6144_7_0_0))

/-- The eight slots of the second ring. -/
abbrev ringB (c : Dev nD) (alloca_r1 : Memref sig .tc .vmem S8x128x1024 .f32) : sProp 𝕄 :=
  iprop(anyAt c (slotB alloca_r1 0 inb_S8x128x1024_S1x128x1024_0_0_0) ∗ anyAt c (slotB alloca_r1 1 inb_S8x128x1024_S1x128x1024_1_0_0) ∗ anyAt c (slotB alloca_r1 2 inb_S8x128x1024_S1x128x1024_2_0_0) ∗ anyAt c (slotB alloca_r1 3 inb_S8x128x1024_S1x128x1024_3_0_0) ∗ anyAt c (slotB alloca_r1 4 inb_S8x128x1024_S1x128x1024_4_0_0) ∗ anyAt c (slotB alloca_r1 5 inb_S8x128x1024_S1x128x1024_5_0_0) ∗ anyAt c (slotB alloca_r1 6 inb_S8x128x1024_S1x128x1024_6_0_0) ∗ anyAt c (slotB alloca_r1 7 inb_S8x128x1024_S1x128x1024_7_0_0))

/-- The sixteen transfer semaphores, every counter at zero. -/
abbrev sems (c : Dev nD) : sProp 𝕄 :=
  iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)

/-- What the first grid point runs before it computes: the statements under the body's condition. -/
def loadProg (i : grid0.Coords) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S16x128 .f32) (harg7 : arg7.IsWhole) (arg9 : Memref sig .tc .vmem S1024x1024 .f32) (harg9 : arg9.IsWhole) (arg10 : Memref sig .tc .vmem S1024x2048 .bf16) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S16x128x128 .bf16) (harg13 : arg13.IsWhole) (arg14 : Memref sig .tc .vmem S16x128x128 .f32) (harg14 : arg14.IsWhole) (alloca_r0 : Memref sig .tc .vmem S8x16x6144 .f32) (halloca_r0 : alloca_r0.IsWhole) (alloca_r1 : Memref sig .tc .vmem S8x128x1024 .f32) (halloca_r1 : alloca_r1.IsWhole) :
    Prog (TpuEff nD τ sig (Elt F) Λ₀ .tc) PUnit := do
  k0_part57 i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3
  let v3242 : Vec F S1x128 .f32 ← Prog.lift (.load arg7 (Rect.unit (s := S16x128) ![15, 0] S1x128.size inb_S16x128_S1x128_15_0).toLoadRect (View.loadsAt_vmem h_S1x128))
  let v3247 : Vec F S1x128x128 .f32 ← Prog.lift (.load arg14 (Rect.unit (s := S16x128x128) ![15, 0, 0] S1x128x128.size inb_S16x128x128_S1x128x128_15_0_0).toLoadRect (View.loadsAt_vmem h_S1x128x128))
  Prog.lift (.store arg14 (Rect.unit (s := S16x128x128) ![15, 0, 0] S1x128x128.size inb_S16x128x128_S1x128x128_15_0_0) (k0_pay119 v3242) Finset.univ (View.stores_vmem_bits_univ h_S1x128x128 rfl) (.inl rfl))
  pure ⟨⟩

set_option maxHeartbeats 9580000 in
/-- The load phase run from the rings' slots held one by one: it ends with the slots and semaphores as it found them, the two HBM
    operands unchanged, and the four scratch buffers with the pieces the run finds written over whatever they held. -/
noncomputable def loadRun (c : Dev nD) (i : grid0.Coords) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S16x128 .f32) (harg7 : arg7.IsWhole) (arg9 : Memref sig .tc .vmem S1024x1024 .f32) (harg9 : arg9.IsWhole) (arg10 : Memref sig .tc .vmem S1024x2048 .bf16) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S16x128x128 .bf16) (harg13 : arg13.IsWhole) (arg14 : Memref sig .tc .vmem S16x128x128 .f32) (harg14 : arg14.IsWhole) (alloca_r0 : Memref sig .tc .vmem S8x16x6144 .f32) (halloca_r0 : alloca_r0.IsWhole) (alloca_r1 : Memref sig .tc .vmem S8x128x1024 .f32) (halloca_r1 : alloca_r1.IsWhole)
    (x4 : Vec F S16x128x128 .f32) (x5 : Vec F S16x128 .f32) (fh0 : HbBuf0 (F := F) c hbM0_0) (fh1 : HbBuf0 (F := F) c hbM0_1) :
    Σ' (L1 : List (View.Piece (Elt F) S1024x6144 .bf16)), Σ' (L2 : List (View.Piece (Elt F) S2048x1024 .bf16)), Σ' (L3 : List (View.Piece (Elt F) S16x128x128 .bf16)), { L4 : List (View.Piece (Elt F) S16x128x128 .f32) //
      ∀ (W : Waits sig Unit) (K : PUnit → sProp 𝕄),
        iprop(owns (c : Thread nD τ) arg6 fullShare x4 ∗ owns (c : Thread nD τ) arg7 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ ringA c alloca_r0 ∗ ringB c alloca_r1 ∗ sems c ∗ hbPt0 c hbM0_0 fh0 ∗ hbPt0 c hbM0_1 fh1 ∗ owes (c : Thread nD τ) 0 W
            ∗ (iprop(owns (c : Thread nD τ) arg6 fullShare x4 ∗ owns (c : Thread nD τ) arg7 fullShare x5
                ∗ (∃ f, arg11.view.loc (c : Thread nD τ) ↦[arg11.view.set]{fullShare} arg11.view.writes (Elt F) f L1)
                ∗ (∃ f, arg12.view.loc (c : Thread nD τ) ↦[arg12.view.set]{fullShare} arg12.view.writes (Elt F) f L2)
                ∗ (∃ f, arg13.view.loc (c : Thread nD τ) ↦[arg13.view.set]{fullShare} arg13.view.writes (Elt F) f L3)
                ∗ (∃ f, arg14.view.loc (c : Thread nD τ) ↦[arg14.view.set]{fullShare} arg14.view.writes (Elt F) f L4)
                ∗ ringA c alloca_r0 ∗ ringB c alloca_r1 ∗ sems c ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (loadProg i arg1 harg1 arg2 harg2 arg4 harg4 arg5 harg5 arg6 harg6 arg7 harg7 arg9 harg9 arg10 harg10 arg11 harg11 arg12 harg12 arg13 harg13 arg14 harg14 alloca_r0 halloca_r0 alloca_r1 halloca_r1) K } := by
  refine ⟨?_, ?_, ?_, ?_, fun W K => ?run⟩
  case run =>
    unfold loadProg
    simp only [k0_part57_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold ringA ringB sems owns anyAt slotA slotB
    iintro ⟨⟨%f4, %hf4, H4⟩, ⟨%f5, %hf5, H5⟩, ⟨%ds1, %fs1, -, HS1⟩, ⟨%ds2, %fs2, -, HS2⟩, ⟨%ds3, %fs3, -, HS3⟩, ⟨%ds4, %fs4, -, HS4⟩, ⟨⟨%a0, Ha0⟩, ⟨%a1, Ha1⟩, ⟨%a2, Ha2⟩, ⟨%a3, Ha3⟩, ⟨%a4, Ha4⟩, ⟨%a5, Ha5⟩, ⟨%a6, Ha6⟩, ⟨%a7, Ha7⟩⟩, ⟨⟨%b0, Hb0⟩, ⟨%b1, Hb1⟩, ⟨%b2, Hb2⟩, ⟨%b3, Hb3⟩, ⟨%b4, Hb4⟩, ⟨%b5, Hb5⟩, ⟨%b6, Hb6⟩, ⟨%b7, Hb7⟩⟩, ⟨Hq0, Hq1, Hq2, Hq3, Hq4, Hq5, Hq6, Hq7, Hq8, Hq9, Hq10, Hq11, Hq12, Hq13, Hq14, Hq15⟩, Hh0, Hh1, HW, Hk⟩
    obtain rfl := harg6.eq_unread hf4; obtain rfl := harg7.eq_unread hf5
    sl_exec
    sl_step
    iapply Hk
    isplitl [H4]
    · iexists _; isplitr; · ipureintro; exact harg6.read_unread _
      iexact H4
    isplitl [H5]
    · iexists _; isplitr; · ipureintro; exact harg7.read_unread _
      iexact H5
    isplitl [HS1]
    · iexists _; iexact HS1
    isplitl [HS2]
    · iexists _; iexact HS2
    isplitl [HS3]
    · iexists _; iexact HS3
    isplitl [HS4]
    · iexists _; iexact HS4
    isplitl [Ha0 Ha1 Ha2 Ha3 Ha4 Ha5 Ha6 Ha7]
    · isplitl [Ha0]; · iexists _; iexact Ha0
      isplitl [Ha1]; · iexists _; iexact Ha1
      isplitl [Ha2]; · iexists _; iexact Ha2
      isplitl [Ha3]; · iexists _; iexact Ha3
      isplitl [Ha4]; · iexists _; iexact Ha4
      isplitl [Ha5]; · iexists _; iexact Ha5
      isplitl [Ha6]; · iexists _; iexact Ha6
      iexists _; iexact Ha7
    isplitl [Hb0 Hb1 Hb2 Hb3 Hb4 Hb5 Hb6 Hb7]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      iexists _; iexact Hb7
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hh0]; · iexact Hh0
    isplitl [Hh1]; · iexact Hh1
    iexists _; iexact HW

end Cert.KernelIdeal.Hand

end
-- ==== Proof.Slots.lean ====
/- The two staging rings of the load phase: each ring's buffer, owned whole, is its eight slots, and back. -/
module

public import proofs.«01_k».proof.Proof.Load
public import Idealize.ShloMosaic.Lib.Ring.FamCut

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Equal propositions entail one another. -/
theorem entails_eq {P Q : sProp 𝕄} (e : P = Q) : P ⊢ Q := e ▸ .rfl

/-- Every slot of the A ring lies inside its buffer. -/
theorem inbA (b : Fin 8) : ∀ a, (![b.val, 0, 0] : Fin 3 → ℕ) a + S1x16x6144.size a ≤ S8x16x6144.size a := by
  intro a; have := b.isLt; fin_cases a
  · show b.val + 1 ≤ 8; omega
  · exact Nat.le_of_eq (Nat.zero_add _)
  · exact Nat.le_of_eq (Nat.zero_add _)
/-- The elements of slot `b`. -/
abbrev IA (b : Fin 8) : Finset S8x16x6144.Idx := (Rect.unit (s := S8x16x6144) ![b.val, 0, 0] S1x16x6144.size (inbA b)).set
theorem IA_disjoint : ∀ b b' : Fin 8, b ≠ b' → Disjoint (IA b) (IA b') := fun b b' h =>
  Ring.lead_disjoint (s := S8x16x6144) (0 : Fin 3) 1 (fun j : Fin 8 => (![j.val, 0, 0] : Fin 3 → ℕ)) S1x16x6144.size inbA (fun j => by simp) rfl b b' h
theorem IA_cover : (Finset.univ : Finset (Fin 8)).biUnion IA = Finset.univ :=
  Ring.lead_cover (s := S8x16x6144) (0 : Fin 3) 1 (fun j : Fin 8 => (![j.val, 0, 0] : Fin 3 → ℕ)) S1x16x6144.size inbA (fun j => by simp)
    (fun j a ha => by fin_cases a; exacts [absurd rfl ha, rfl, rfl]) rfl (fun a ha => by fin_cases a; exacts [absurd rfl ha, rfl, rfl]) rfl
theorem slotA_set (b : ℕ) (hb : b < 8) (h) : (slotA scM0_5 b h).view.set = IA ⟨b, hb⟩ :=
  (Memref.set_view_squeeze _ _).trans (View.set_slice_whole _ _)
/-- A slot held at some contents, by its elements of the buffer. -/
theorem any_slotA (c : Dev nD) (b : ℕ) (hb : b < 8) (h) :
    (anyAt c (slotA scM0_5 b h) : sProp 𝕄) = iprop(∃ f, ((c : Thread nD τ).loc cc0_scoped0) ↦[IA ⟨b, hb⟩]{fullShare} f) :=
  congrArg (fun S => (iprop(∃ f, ((c : Thread nD τ).loc cc0_scoped0) ↦[S]{fullShare} f) : sProp 𝕄)) (slotA_set b hb h)
/-- The A ring's slots are its buffer, cut along the leading axis. -/
theorem ringA_eq (c : Dev nD) :
    (ringA c scM0_5 : sProp 𝕄) = bigSep Finset.univ fun b : Fin 8 => iprop(∃ f, ((c : Thread nD τ).loc cc0_scoped0) ↦[IA b]{fullShare} f) := by
  rw [bigSep_univ_eq_bigSepL [(0 : Fin 8), 1, 2, 3, 4, 5, 6, 7] (by decide) (by decide)]
  unfold ringA
  rw [any_slotA c 0 (by decide) inb_S8x16x6144_S1x16x6144_0_0_0, any_slotA c 1 (by decide) inb_S8x16x6144_S1x16x6144_1_0_0, any_slotA c 2 (by decide) inb_S8x16x6144_S1x16x6144_2_0_0, any_slotA c 3 (by decide) inb_S8x16x6144_S1x16x6144_3_0_0, any_slotA c 4 (by decide) inb_S8x16x6144_S1x16x6144_4_0_0, any_slotA c 5 (by decide) inb_S8x16x6144_S1x16x6144_5_0_0, any_slotA c 6 (by decide) inb_S8x16x6144_S1x16x6144_6_0_0, any_slotA c 7 (by decide) inb_S8x16x6144_S1x16x6144_7_0_0]
  rfl
/-- The buffer owned at some contents splits into the ring's slots, -/
theorem ringA_split (c : Dev nD) : (iprop(∃ d, owns (c : Thread nD τ) scM0_5 fullShare d) : sProp 𝕄) ⊢ ringA c scM0_5 := by
  rw [ringA_eq]
  simp only [owns_whole]
  iintro H
  ihave H2 := (Ring.fam_split_ex (Ix := Unit) (Name := ℕ) (U := Pipeline.UD sig nD τ) (Lvl := ℕ) (q := fullShare) (ℓ := (c : Thread nD τ).loc cc0_scoped0) IA IA_disjoint) $$ H
  icases H2 with ⟨H2, -⟩
  iexact H2
/-- and is joined back from them. -/
theorem ringA_join (c : Dev nD) : (ringA c scM0_5 : sProp 𝕄) ⊢ iprop(∃ d, owns (c : Thread nD τ) scM0_5 fullShare d) := by
  rw [ringA_eq]
  simp only [owns_whole]
  iintro H
  ihave H2 := (Ring.pointsTo_blocks_join_exists (Ix := Unit) (Name := ℕ) (U := Pipeline.UD sig nD τ) (Lvl := ℕ) (q := fullShare) (ℓ := (c : Thread nD τ).loc cc0_scoped0) IA IA_disjoint IA_cover (fun _ => Classical.arbitrary _)) $$ H
  icases H2 with ⟨%g, H2⟩
  iexists g
  iexact H2

/-- Every slot of the B ring lies inside its buffer. -/
theorem inbB (b : Fin 8) : ∀ a, (![b.val, 0, 0] : Fin 3 → ℕ) a + S1x128x1024.size a ≤ S8x128x1024.size a := by
  intro a; have := b.isLt; fin_cases a
  · show b.val + 1 ≤ 8; omega
  · exact Nat.le_of_eq (Nat.zero_add _)
  · exact Nat.le_of_eq (Nat.zero_add _)
/-- The elements of slot `b`. -/
abbrev IB (b : Fin 8) : Finset S8x128x1024.Idx := (Rect.unit (s := S8x128x1024) ![b.val, 0, 0] S1x128x1024.size (inbB b)).set
theorem IB_disjoint : ∀ b b' : Fin 8, b ≠ b' → Disjoint (IB b) (IB b') := fun b b' h =>
  Ring.lead_disjoint (s := S8x128x1024) (0 : Fin 3) 1 (fun j : Fin 8 => (![j.val, 0, 0] : Fin 3 → ℕ)) S1x128x1024.size inbB (fun j => by simp) rfl b b' h
theorem IB_cover : (Finset.univ : Finset (Fin 8)).biUnion IB = Finset.univ :=
  Ring.lead_cover (s := S8x128x1024) (0 : Fin 3) 1 (fun j : Fin 8 => (![j.val, 0, 0] : Fin 3 → ℕ)) S1x128x1024.size inbB (fun j => by simp)
    (fun j a ha => by fin_cases a; exacts [absurd rfl ha, rfl, rfl]) rfl (fun a ha => by fin_cases a; exacts [absurd rfl ha, rfl, rfl]) rfl
theorem slotB_set (b : ℕ) (hb : b < 8) (h) : (slotB scM0_6 b h).view.set = IB ⟨b, hb⟩ :=
  (Memref.set_view_squeeze _ _).trans (View.set_slice_whole _ _)
/-- A slot held at some contents, by its elements of the buffer. -/
theorem any_slotB (c : Dev nD) (b : ℕ) (hb : b < 8) (h) :
    (anyAt c (slotB scM0_6 b h) : sProp 𝕄) = iprop(∃ f, ((c : Thread nD τ).loc cc0_scoped2) ↦[IB ⟨b, hb⟩]{fullShare} f) :=
  congrArg (fun S => (iprop(∃ f, ((c : Thread nD τ).loc cc0_scoped2) ↦[S]{fullShare} f) : sProp 𝕄)) (slotB_set b hb h)
/-- The B ring's slots are its buffer, cut along the leading axis. -/
theorem ringB_eq (c : Dev nD) :
    (ringB c scM0_6 : sProp 𝕄) = bigSep Finset.univ fun b : Fin 8 => iprop(∃ f, ((c : Thread nD τ).loc cc0_scoped2) ↦[IB b]{fullShare} f) := by
  rw [bigSep_univ_eq_bigSepL [(0 : Fin 8), 1, 2, 3, 4, 5, 6, 7] (by decide) (by decide)]
  unfold ringB
  rw [any_slotB c 0 (by decide) inb_S8x128x1024_S1x128x1024_0_0_0, any_slotB c 1 (by decide) inb_S8x128x1024_S1x128x1024_1_0_0, any_slotB c 2 (by decide) inb_S8x128x1024_S1x128x1024_2_0_0, any_slotB c 3 (by decide) inb_S8x128x1024_S1x128x1024_3_0_0, any_slotB c 4 (by decide) inb_S8x128x1024_S1x128x1024_4_0_0, any_slotB c 5 (by decide) inb_S8x128x1024_S1x128x1024_5_0_0, any_slotB c 6 (by decide) inb_S8x128x1024_S1x128x1024_6_0_0, any_slotB c 7 (by decide) inb_S8x128x1024_S1x128x1024_7_0_0]
  rfl
/-- The buffer owned at some contents splits into the ring's slots, -/
theorem ringB_split (c : Dev nD) : (iprop(∃ d, owns (c : Thread nD τ) scM0_6 fullShare d) : sProp 𝕄) ⊢ ringB c scM0_6 := by
  rw [ringB_eq]
  simp only [owns_whole]
  iintro H
  ihave H2 := (Ring.fam_split_ex (Ix := Unit) (Name := ℕ) (U := Pipeline.UD sig nD τ) (Lvl := ℕ) (q := fullShare) (ℓ := (c : Thread nD τ).loc cc0_scoped2) IB IB_disjoint) $$ H
  icases H2 with ⟨H2, -⟩
  iexact H2
/-- and is joined back from them. -/
theorem ringB_join (c : Dev nD) : (ringB c scM0_6 : sProp 𝕄) ⊢ iprop(∃ d, owns (c : Thread nD τ) scM0_6 fullShare d) := by
  rw [ringB_eq]
  simp only [owns_whole]
  iintro H
  ihave H2 := (Ring.pointsTo_blocks_join_exists (Ix := Unit) (Name := ℕ) (U := Pipeline.UD sig nD τ) (Lvl := ℕ) (q := fullShare) (ℓ := (c : Thread nD τ).loc cc0_scoped2) IB IB_disjoint IB_cover (fun _ => Classical.arbitrary _)) $$ H
  icases H2 with ⟨%g, H2⟩
  iexists g
  iexact H2

end Cert.KernelIdeal.Hand

end
-- ==== Proof.Share.lean ====
/- The body at a grid point where it loads is the load phase followed by the body at a grid point where it does not: the grid coordinate
   is read by the condition alone. -/
module

public import proofs.«01_k».proof.Proof.Load

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's first part at a point where it loads: the load phase, then the same part at a point where it does not. -/
theorem part58_load (i i₁ : grid0.Coords) (hc : cond0_0 i) (hc₁ : ¬cond0_0 i₁) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S16x128 .f32) (harg7 : arg7.IsWhole) (arg9 : Memref sig .tc .vmem S1024x1024 .f32) (harg9 : arg9.IsWhole) (arg10 : Memref sig .tc .vmem S1024x2048 .bf16) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S16x128x128 .bf16) (harg13 : arg13.IsWhole) (arg14 : Memref sig .tc .vmem S16x128x128 .f32) (harg14 : arg14.IsWhole) (alloca_r0 : Memref sig .tc .vmem S8x16x6144 .f32) (halloca_r0 : alloca_r0.IsWhole) (alloca_r1 : Memref sig .tc .vmem S8x128x1024 .f32) (halloca_r1 : alloca_r1.IsWhole) :
    k0_part58 (F := F) i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3
      = loadProg i arg1 harg1 arg2 harg2 arg4 harg4 arg5 harg5 arg6 harg6 arg7 harg7 arg9 harg9 arg10 harg10 arg11 harg11 arg12 harg12 arg13 harg13 arg14 harg14 alloca_r0 halloca_r0 alloca_r1 halloca_r1 >>= fun _ => k0_part58 (F := F) i₁ arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 := by
  simp only [k0_part58_eq_skeleton]
  unfold k0_part58_skel loadProg
  dsimp only
  rw [dif_pos hc, dif_neg hc₁]
  simp only [bind_assoc, pure_bind]

/-- The same for the body's longest stretch. -/
theorem part135_load (i i₁ : grid0.Coords) (hc : cond0_0 i) (hc₁ : ¬cond0_0 i₁) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S16x128 .f32) (harg7 : arg7.IsWhole) (arg9 : Memref sig .tc .vmem S1024x1024 .f32) (harg9 : arg9.IsWhole) (arg10 : Memref sig .tc .vmem S1024x2048 .bf16) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S16x128x128 .bf16) (harg13 : arg13.IsWhole) (arg14 : Memref sig .tc .vmem S16x128x128 .f32) (harg14 : arg14.IsWhole) (alloca_r0 : Memref sig .tc .vmem S8x16x6144 .f32) (halloca_r0 : alloca_r0.IsWhole) (alloca_r1 : Memref sig .tc .vmem S8x128x1024 .f32) (halloca_r1 : alloca_r1.IsWhole) :
    k0_part135 (F := F) i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3
      = loadProg i arg1 harg1 arg2 harg2 arg4 harg4 arg5 harg5 arg6 harg6 arg7 harg7 arg9 harg9 arg10 harg10 arg11 harg11 arg12 harg12 arg13 harg13 arg14 harg14 alloca_r0 halloca_r0 alloca_r1 halloca_r1 >>= fun _ => k0_part135 (F := F) i₁ arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 := by
  simp only [k0_part135_eq_skeleton]
  unfold k0_part135_skel
  rw [part58_load i i₁ hc hc₁, bind_assoc]
  rfl

/-- The body at a loading point is the load phase and the body at any point that does not load. -/
theorem body_load (i i₁ : grid0.Coords) (hc : cond0_0 i) (hc₁ : ¬cond0_0 i₁) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S16x128 .f32) (harg7 : arg7.IsWhole) (arg9 : Memref sig .tc .vmem S1024x1024 .f32) (harg9 : arg9.IsWhole) (arg10 : Memref sig .tc .vmem S1024x2048 .bf16) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S16x128x128 .bf16) (harg13 : arg13.IsWhole) (arg14 : Memref sig .tc .vmem S16x128x128 .f32) (harg14 : arg14.IsWhole) (alloca_r0 : Memref sig .tc .vmem S8x16x6144 .f32) (halloca_r0 : alloca_r0.IsWhole) (alloca_r1 : Memref sig .tc .vmem S8x128x1024 .f32) (halloca_r1 : alloca_r1.IsWhole) :
    cc0_gmlp_layer (F := F) i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3
      = loadProg i arg1 harg1 arg2 harg2 arg4 harg4 arg5 harg5 arg6 harg6 arg7 harg7 arg9 harg9 arg10 harg10 arg11 harg11 arg12 harg12 arg13 harg13 arg14 harg14 alloca_r0 halloca_r0 alloca_r1 halloca_r1 >>= fun _ => cc0_gmlp_layer (F := F) i₁ arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 := by
  simp only [cc0_gmlp_layer_eq_skeleton]
  unfold cc0_gmlp_layer_skel
  rw [part135_load i i₁ hc hc₁, bind_assoc]
  rfl

end Cert.KernelIdeal.Hand

end
-- ==== Proof.Compute.lean ====
/- The computing phase of a grid point: with the four weight scratch buffers at stated contents, the body normalises its rows, projects,
   mixes each group's chunks and projects back. The run finds the pieces the output block ends with. -/
module

public import proofs.«01_k».proof.Proof.Load

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 9580000 in
/-- One grid point's computation, at a point where the body does not load: the inputs and the four weight scratch buffers are left as
    found, and the output block ends with the pieces the run finds. -/
noncomputable def computeRun (c : Dev nD) (i : grid0.Coords) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S16x128 .f32) (harg7 : arg7.IsWhole) (arg9 : Memref sig .tc .vmem S1024x1024 .f32) (harg9 : arg9.IsWhole) (arg10 : Memref sig .tc .vmem S1024x2048 .bf16) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S16x128x128 .bf16) (harg13 : arg13.IsWhole) (arg14 : Memref sig .tc .vmem S16x128x128 .f32) (harg14 : arg14.IsWhole) (alloca_r0 : Memref sig .tc .vmem S8x16x6144 .f32) (halloca_r0 : alloca_r0.IsWhole) (alloca_r1 : Memref sig .tc .vmem S8x128x1024 .f32) (halloca_r1 : alloca_r1.IsWhole) (hc0 : ¬cond0_0 i)
    (x0 : Vec F S1024x1024 .f32) (x1 : Vec F S1x1024 .f32) (x2 : Vec F S1x2048 .f32) (x3 : Vec F S1x2048 .f32) (xs1 : Vec F S1024x6144 .bf16) (xs2 : Vec F S2048x1024 .bf16) (xs3 : Vec F S16x128x128 .bf16) (xs4 : Vec F S16x128x128 .f32) :
    { L : List (View.Piece (Elt F) S1024x1024 .f32) //
      ∀ (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg11 fullShare xs1 ∗ owns (c : Thread nD τ) arg12 fullShare xs2 ∗ owns (c : Thread nD τ) arg13 fullShare xs3 ∗ owns (c : Thread nD τ) arg14 fullShare xs4 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg11 fullShare xs1 ∗ owns (c : Thread nD τ) arg12 fullShare xs2 ∗ owns (c : Thread nD τ) arg13 fullShare xs3 ∗ owns (c : Thread nD τ) arg14 fullShare xs4
                ∗ (∃ f, arg9.view.loc (c : Thread nD τ) ↦[arg9.view.set]{fullShare} arg9.view.writes (Elt F) f L) ∗ (∃ d, owns (c : Thread nD τ) arg10 fullShare d)) -∗ K ⟨⟩))
          ⊢ wp frame (wpE (defs₀ (F := F)) Variants.none c none) Set.univ (cc0_gmlp_layer i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3) K } := by
  refine ⟨?_, fun K => ?run⟩
  case run =>
    simp only [cc0_gmlp_layer_eq_skeleton]; unfold cc0_gmlp_layer_skel
    simp only [k0_part135_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton]
    unfold owns
    iintro ⟨⟨%f1, %hf1, H1⟩, ⟨%f2, %hf2, H2⟩, ⟨%f4, %hf4, H4⟩, ⟨%f5, %hf5, H5⟩, ⟨%f11, %hf11, H11⟩, ⟨%f12, %hf12, H12⟩, ⟨%f13, %hf13, H13⟩, ⟨%f14, %hf14, H14⟩, ⟨%d9, %f9, -, H9⟩, ⟨%d10, %f10, -, H10⟩, Hk⟩
    obtain rfl := harg1.eq_unread hf1; obtain rfl := harg2.eq_unread hf2; obtain rfl := harg4.eq_unread hf4; obtain rfl := harg5.eq_unread hf5; obtain rfl := harg11.eq_unread hf11; obtain rfl := harg12.eq_unread hf12; obtain rfl := harg13.eq_unread hf13; obtain rfl := harg14.eq_unread hf14
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H9]
    · iexists _; iexact H9
    iexists _, _; isplitr; swap; · iexact H10
    ipureintro; rfl

end Cert.KernelIdeal.Hand

end
-- ==== Proof.Launch.lean ====
/- The launch: what the four weight scratch buffers hold after the first point, what each point leaves in the output block, the pipeline's
   proof data, the body's triple at every point, and the run of the whole program, for any float values `F`. -/
module

public import proofs.«01_k».proof.Proof.Slots
public import proofs.«01_k».proof.Proof.Share
public import proofs.«01_k».proof.Proof.Compute

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first grid point, where the body loads, -/
abbrev t0 : Fin cfg0.N := ⟨0, by have : cfg0.N = 16 := N_0; omega⟩
/-- and the second, where it does not. -/
abbrev t1 : Fin cfg0.N := ⟨1, by have : cfg0.N = 16 := N_0; omega⟩
abbrev i1 : grid0.Coords := grid0.coords t1
theorem hc1 : ¬cond0_0 i1 := fun h => absurd ((hcond0_0 t1).mp h) (by decide)

/-! ## What the scratch buffers and the output block hold -/

/-- The load phase's run at the first point. -/
abbrev loadAt (c : Dev nD) := loadRun (F := F) c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 4 t0) (iblk m c 5 t0) (V m c main_v3) (V m c main_v10)
/-- The input projection's weights as the load phase leaves them, -/
def sc1 (c : Dev nD) : Vec F S1024x6144 .bf16 := View.canon (loadAt m c).1
/-- the output projection's, -/
def sc2 (c : Dev nD) : Vec F S2048x1024 .bf16 := View.canon (loadAt m c).2.1
/-- the masked chunk weights -/
def sc3 (c : Dev nD) : Vec F S16x128x128 .bf16 := View.canon (loadAt m c).2.2.1
/-- and the biases laid out along the lanes. -/
def sc4 (c : Dev nD) : Vec F S16x128x128 .f32 := View.canon (loadAt m c).2.2.2.val

theorem cover1 (c : Dev nD) : ∀ y, ∃ p ∈ (loadAt m c).1, y ∈ p.1.set := View.cover_of_tiledL _ S16x6144.size (by sl_kernel_rfl)
theorem cover2 (c : Dev nD) : ∀ y, ∃ p ∈ (loadAt m c).2.1, y ∈ p.1.set := View.cover_of_tiledL _ S128x1024.size (by sl_kernel_rfl)
theorem cover3 (c : Dev nD) : ∀ y, ∃ p ∈ (loadAt m c).2.2.1, y ∈ p.1.set := View.cover_of_tiledL _ S1x128x128.size (by sl_kernel_rfl)
theorem cover4 (c : Dev nD) : ∀ y, ∃ p ∈ (loadAt m c).2.2.2.val, y ∈ p.1.set := View.cover_of_tiledL _ S1x128x128.size (by sl_kernel_rfl)

/-- The computation's run at a point, from that point's input blocks and the loaded weights. -/
abbrev computeAt (c : Dev nD) (t : Fin cfg0.N) := computeRun (F := F) c i1 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc1 (iblk m c 0 t) (iblk m c 1 t) (iblk m c 2 t) (iblk m c 3 t) (sc1 m c) (sc2 m c) (sc3 m c) (sc4 m c)
/-- The output block a point leaves. -/
def outBlk (c : Dev nD) (t : Fin cfg0.N) : Vec F S1024x1024 .f32 := View.canon (computeAt m c t).val
theorem coverOut (c : Dev nD) (t : Fin cfg0.N) : ∀ y, ∃ p ∈ (computeAt m c t).val, y ∈ p.1.set := View.cover_of_tiledL _ S1024x1024.size (by sl_kernel_rfl)

/-- A buffer with pieces written that cover it is owned at their canonical contents. -/
theorem owns_canon (c : Dev nD) {sp : Space} {S : Shape} {e : EltTy} (M : Memref sig .tc sp S e) (L : List (View.Piece (Elt F) S e)) (h : ∀ y, ∃ p ∈ L, y ∈ p.1.set) :
    (iprop(∃ f, M.view.loc (c : Thread nD τ) ↦[M.view.set]{fullShare} M.view.writes (Elt F) f L) : sProp 𝕄) ⊢ owns (c : Thread nD τ) M fullShare (View.canon L) := by
  iintro ⟨%f, H⟩
  unfold owns
  iexists _; isplitr; swap; · iexact H
  ipureintro; exact View.read_writes_eq_canon _ _ _ h

/-- At a point that does not load, the body is the body at the second point. -/
theorem body_skip (i : grid0.Coords) (hc : ¬cond0_0 i) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg6 : Memref sig .tc .vmem S16x128x128 .f32) (harg6 : arg6.IsWhole) (arg7 : Memref sig .tc .vmem S16x128 .f32) (harg7 : arg7.IsWhole) (arg9 : Memref sig .tc .vmem S1024x1024 .f32) (harg9 : arg9.IsWhole) (arg10 : Memref sig .tc .vmem S1024x2048 .bf16) (harg10 : arg10.IsWhole) (arg11 : Memref sig .tc .vmem S1024x6144 .bf16) (harg11 : arg11.IsWhole) (arg12 : Memref sig .tc .vmem S2048x1024 .bf16) (harg12 : arg12.IsWhole) (arg13 : Memref sig .tc .vmem S16x128x128 .bf16) (harg13 : arg13.IsWhole) (arg14 : Memref sig .tc .vmem S16x128x128 .f32) (harg14 : arg14.IsWhole) (alloca_r0 : Memref sig .tc .vmem S8x16x6144 .f32) (halloca_r0 : alloca_r0.IsWhole) (alloca_r1 : Memref sig .tc .vmem S8x128x1024 .f32) (halloca_r1 : alloca_r1.IsWhole) :
    cc0_gmlp_layer (F := F) i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 = cc0_gmlp_layer (F := F) i1 arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 := by
  have e : k0_part58 (F := F) i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 = k0_part58 (F := F) i1 arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 := by
    simp only [k0_part58_eq_skeleton]
    unfold k0_part58_skel
    dsimp only
    rw [dif_neg hc, dif_neg hc1]
  have e2 : k0_part135 (F := F) i arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 = k0_part135 (F := F) i1 arg1 harg1 arg2 harg2 (Memref.whole main_v3) (Memref.isWhole_whole _) arg4 harg4 arg5 harg5 arg6 harg6 arg7 harg7 (Memref.whole main_v10) (Memref.isWhole_whole _) arg9 harg9 arg10 harg10 arg11 harg11 arg12 harg12 arg13 harg13 arg14 harg14 alloca_r0 halloca_r0 cc0_scoped1 alloca_r1 halloca_r1 cc0_scoped3 := by
    simp only [k0_part135_eq_skeleton]
    unfold k0_part135_skel
    rw [e]
    rfl
  simp only [cc0_gmlp_layer_eq_skeleton]
  unfold cc0_gmlp_layer_skel
  rw [e2]
  rfl

/-! ## The invariant and the proof data -/

/-- Before the first point the launch's invariant; afterwards the same with the four weight scratch buffers at what the load phase left. -/
def PhiS (c : Dev nD) : (n : ℕ) → n ≤ cfg0.N → sProp 𝕄
  | 0, _ => Pipeline.ΦD osem0 spec0 H0 (V m) c
  | n + 1, hn => iprop(iprop((∃ d, owns (c : Thread nD τ) scM0_0 fullShare d) ∗ owns (c : Thread nD τ) scM0_1 fullShare (sc1 m c) ∗ owns (c : Thread nD τ) scM0_2 fullShare (sc2 m c) ∗ owns (c : Thread nD τ) scM0_3 fullShare (sc3 m c) ∗ owns (c : Thread nD τ) scM0_4 fullShare (sc4 m c) ∗ (∃ d, owns (c : Thread nD τ) scM0_5 fullShare d) ∗ (∃ d, owns (c : Thread nD τ) scM0_6 fullShare d)) ∗ (∃ r, prngReg c r) ∗ sems c ∗ iprop(hbPt0 c hbM0_0 (V m c main_v3) ∗ hbPt0 c hbM0_1 (V m c main_v10)))
theorem PhiS_zero (c : Dev nD) (n : ℕ) (h : n ≤ cfg0.N) (hz : n = 0) : PhiS m c n h = Pipeline.ΦD osem0 spec0 H0 (V m) c := by
  subst hz; rfl
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (sc1 m c) ∗ owns (c : Thread nD τ) scM0_2 fullShare (sc2 m c) ∗ owns (c : Thread nD τ) scM0_3 fullShare (sc3 m c) ∗ owns (c : Thread nD τ) scM0_4 fullShare (sc4 m c) ∗ (∃ d, owns (c : Thread nD τ) scM0_5 fullShare d) ∗ (∃ d, owns (c : Thread nD τ) scM0_6 fullShare d)) ∗ (∃ r, prngReg c r) ∗ sems c ∗ iprop(hbPt0 c hbM0_0 (V m c main_v3) ∗ hbPt0 c hbM0_1 (V m c main_v10))) := by
  cases n with
  | zero => exact absurd rfl hz
  | succ n => rfl

/-- The proof data of the pipeline on core `c`: the arrays as the region finds them, after the body at a point each input's buffer at its
    block and the output's at `outBlk`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- The computation at any point, from the loaded weights: the run at the second point's coordinates, its pieces read as `outBlk`. -/
theorem compute_triple (c : Dev nD) (t : Fin cfg0.N) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t)
        ∗ owns (c : Thread nD τ) scM0_1 fullShare (sc1 m c) ∗ owns (c : Thread nD τ) scM0_2 fullShare (sc2 m c) ∗ owns (c : Thread nD τ) scM0_3 fullShare (sc3 m c) ∗ owns (c : Thread nD τ) scM0_4 fullShare (sc4 m c)
        ∗ (∃ d, owns (c : Thread nD τ) (ms0_6 t) fullShare d) ∗ (∃ d, owns (c : Thread nD τ) scM0_0 fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t)
            ∗ owns (c : Thread nD τ) scM0_1 fullShare (sc1 m c) ∗ owns (c : Thread nD τ) scM0_2 fullShare (sc2 m c) ∗ owns (c : Thread nD τ) scM0_3 fullShare (sc3 m c) ∗ owns (c : Thread nD τ) scM0_4 fullShare (sc4 m c)
            ∗ owns (c : Thread nD τ) (ms0_6 t) fullShare (outBlk m c t) ∗ (∃ d, owns (c : Thread nD τ) scM0_0 fullShare d)) -∗ K ⟨⟩))
      ⊢ wp frame (wpE (defs₀ (F := F)) Variants.none c none) Set.univ (cc0_gmlp_layer (F := F) i1 (ms0_0 t) (hs0_0 t) (ms0_1 t) (hs0_1 t) (Memref.whole main_v3) (Memref.isWhole_whole _) (ms0_2 t) (hs0_2 t) (ms0_3 t) (hs0_3 t) (ms0_4 t) (hs0_4 t) (ms0_5 t) (hs0_5 t) (Memref.whole main_v10) (Memref.isWhole_whole _) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) cc0_scoped1 scM0_6 (Memref.isWhole_whole _) cc0_scoped3) K := by
  iintro ⟨H0, H1, H2, H3, HS1, HS2, HS3, HS4, HO, HY, Hk⟩
  iapply ((computeAt m c t).property K)
  isplitl [H0]; · iexact H0
  isplitl [H1]; · iexact H1
  isplitl [H2]; · iexact H2
  isplitl [H3]; · iexact H3
  isplitl [HS1]; · iexact HS1
  isplitl [HS2]; · iexact HS2
  isplitl [HS3]; · iexact HS3
  isplitl [HS4]; · iexact HS4
  isplitl [HO]; · iexact HO
  isplitl [HY]; · iexact HY
  iintro ⟨H0, H1, H2, H3, HS1, HS2, HS3, HS4, HO, HY⟩
  iapply Hk
  isplitl [H0]; · iexact H0
  isplitl [H1]; · iexact H1
  isplitl [H2]; · iexact H2
  isplitl [H3]; · iexact H3
  isplitl [HS1]; · iexact HS1
  isplitl [HS2]; · iexact HS2
  isplitl [HS3]; · iexact HS3
  isplitl [HS4]; · iexact HS4
  isplitl [HO]
  · iapply (owns_canon c (ms0_6 t) (computeAt m c t).val (coverOut m c t)); iexact HO
  iexact HY

set_option maxHeartbeats 4000000 in
/-- The load phase at the first point: the rings' buffers are cut into their slots, the run is applied, the slots are joined back, and the four
    scratch buffers are owned at `sc1` … `sc4`. -/
theorem load_triple (c : Dev nD) (W : Waits sig Unit) (K : PUnit → sProp 𝕄) :
    iprop(owns (c : Thread nD τ) (ms0_4 t0) fullShare (iblk m c 4 t0) ∗ owns (c : Thread nD τ) (ms0_5 t0) fullShare (iblk m c 5 t0)
        ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)
        ∗ (∃ d, owns (c : Thread nD τ) scM0_5 fullShare d) ∗ (∃ d, owns (c : Thread nD τ) scM0_6 fullShare d) ∗ sems c ∗ hbPt0 c hbM0_0 (V m c main_v3) ∗ hbPt0 c hbM0_1 (V m c main_v10) ∗ owes (c : Thread nD τ) 0 W
        ∗ (iprop(owns (c : Thread nD τ) (ms0_4 t0) fullShare (iblk m c 4 t0) ∗ owns (c : Thread nD τ) (ms0_5 t0) fullShare (iblk m c 5 t0)
            ∗ owns (c : Thread nD τ) scM0_1 fullShare (sc1 m c) ∗ owns (c : Thread nD τ) scM0_2 fullShare (sc2 m c) ∗ owns (c : Thread nD τ) scM0_3 fullShare (sc3 m c) ∗ owns (c : Thread nD τ) scM0_4 fullShare (sc4 m c)
            ∗ (∃ d, owns (c : Thread nD τ) scM0_5 fullShare d) ∗ (∃ d, owns (c : Thread nD τ) scM0_6 fullShare d) ∗ sems c ∗ hbPt0 c hbM0_0 (V m c main_v3) ∗ hbPt0 c hbM0_1 (V m c main_v10) ∗ (∃ W', owes (c : Thread nD τ) 0 W')) -∗ K ⟨⟩))
      ⊢ wp frame (wpE (defs₀ (F := F)) Variants.none c none) Set.univ (loadProg (F := F) (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K := by
  iintro ⟨H4, H5, HS1, HS2, HS3, HS4, HA, HB, Hq, Hh0, Hh1, HW, Hk⟩
  iapply ((loadAt m c).2.2.2.property W K)
  isplitl [H4]; · iexact H4
  isplitl [H5]; · iexact H5
  isplitl [HS1]; · iexact HS1
  isplitl [HS2]; · iexact HS2
  isplitl [HS3]; · iexact HS3
  isplitl [HS4]; · iexact HS4
  isplitl [HA]; · iapply (ringA_split c); iexact HA
  isplitl [HB]; · iapply (ringB_split c); iexact HB
  isplitl [Hq]; · iexact Hq
  isplitl [Hh0]; · iexact Hh0
  isplitl [Hh1]; · iexact Hh1
  isplitl [HW]; · iexact HW
  iintro ⟨H4, H5, HS1, HS2, HS3, HS4, HA, HB, Hq, Hh0, Hh1, HW⟩
  iapply Hk
  isplitl [H4]; · iexact H4
  isplitl [H5]; · iexact H5
  isplitl [HS1]
  · iapply (owns_canon c scM0_1 (loadAt m c).1 (cover1 m c)); iexact HS1
  isplitl [HS2]
  · iapply (owns_canon c scM0_2 (loadAt m c).2.1 (cover2 m c)); iexact HS2
  isplitl [HS3]
  · iapply (owns_canon c scM0_3 (loadAt m c).2.2.1 (cover3 m c)); iexact HS3
  isplitl [HS4]
  · iapply (owns_canon c scM0_4 (loadAt m c).2.2.2.val (cover4 m c)); iexact HS4
  isplitl [HA]; · iapply (ringA_join c); iexact HA
  isplitl [HB]; · iapply (ringB_join c); iexact HB
  isplitl [Hq]; · iexact Hq
  isplitl [Hh0]; · iexact Hh0
  isplitl [Hh1]; · iexact Hh1
  iexact HW

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiS m c (t.val + 1) t.isLt from rfl, PhiS_pos m c (t.val + 1) t.isLt (Nat.succ_ne_zero _),
    after0_0, after0_1, after0_2, after0_3, after0_4, after0_5, after0_6]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val = 0
  · obtain rfl : t = t0 := Fin.ext h0
    rw [PhiS_castSucc, PhiS_zero m c _ _ rfl, PhiD0_eq, body_load (grid0.coords t0) i1 ((hcond0_0 t0).mpr rfl) hc1]
    iintro ⟨⟨⟨HS0, HS1, HS2, HS3, HS4, HS5, HS6⟩, Hg, Hq, Hh0, Hh1⟩, ⟨%W, %hW, HW⟩, ⟨%d0, H0⟩, ⟨%d1, H1⟩, ⟨%d2, H2⟩, ⟨%d3, H3⟩, ⟨%d4, H4⟩, ⟨%d5, H5⟩, ⟨%d6, H6⟩⟩
    simp only [wp_bind]
    iapply (load_triple m c W _)
    isplitl [H4]; · iexact H4
    isplitl [H5]; · iexact H5
    isplitl [HS1]; · iexact HS1
    isplitl [HS2]; · iexact HS2
    isplitl [HS3]; · iexact HS3
    isplitl [HS4]; · iexact HS4
    isplitl [HS5]; · iexact HS5
    isplitl [HS6]; · iexact HS6
    isplitl [Hq]; · unfold sems; iexact Hq
    isplitl [Hh0]; · iexact Hh0
    isplitl [Hh1]; · iexact Hh1
    isplitl [HW]; · iexact HW
    iintro ⟨H4, H5, HS1, HS2, HS3, HS4, HS5, HS6, Hq, Hh0, Hh1, HW⟩
    iapply (compute_triple m c t0 _)
    isplitl [H0]; · iexact H0
    isplitl [H1]; · iexact H1
    isplitl [H2]; · iexact H2
    isplitl [H3]; · iexact H3
    isplitl [HS1]; · iexact HS1
    isplitl [HS2]; · iexact HS2
    isplitl [HS3]; · iexact HS3
    isplitl [HS4]; · iexact HS4
    isplitl [H6]; · iexists _; iexact H6
    isplitl [HS0]; · iexact HS0
    iintro ⟨H0, H1, H2, H3, HS1, HS2, HS3, HS4, H6, HS0⟩
    isplitl [HS0 HS1 HS2 HS3 HS4 HS5 HS6 Hg Hq Hh0 Hh1]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq]; · iexact Hq
      isplitl [Hh0]; · iexact Hh0
      iexact Hh1
    isplitl [HW]
    · icases HW with ⟨%W', HW⟩
      iexists W'
      isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    iexact H6
  · have hc : ¬cond0_0 (grid0.coords t) := fun h => h0 (by have := (hcond0_0 t).mp h; omega)
    rw [PhiS_castSucc, PhiS_pos m c _ _ h0, body_skip (grid0.coords t) hc]
    iintro ⟨⟨⟨HS0, HS1, HS2, HS3, HS4, HS5, HS6⟩, Hg, Hq, Hh0, Hh1⟩, ⟨%W, %hW, HW⟩, ⟨%d0, H0⟩, ⟨%d1, H1⟩, ⟨%d2, H2⟩, ⟨%d3, H3⟩, ⟨%d4, H4⟩, ⟨%d5, H5⟩, ⟨%d6, H6⟩⟩
    iapply (compute_triple m c t _)
    isplitl [H0]; · iexact H0
    isplitl [H1]; · iexact H1
    isplitl [H2]; · iexact H2
    isplitl [H3]; · iexact H3
    isplitl [HS1]; · iexact HS1
    isplitl [HS2]; · iexact HS2
    isplitl [HS3]; · iexact HS3
    isplitl [HS4]; · iexact HS4
    isplitl [H6]; · iexists _; iexact H6
    isplitl [HS0]; · iexact HS0
    iintro ⟨H0, H1, H2, H3, HS1, HS2, HS3, HS4, H6, HS0⟩
    isplitl [HS0 HS1 HS2 HS3 HS4 HS5 HS6 Hg Hq Hh0 Hh1]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq]; · iexact Hq
      isplitl [Hh0]; · iexact Hh0
      iexact Hh1
    isplitl [HW]
    · skip
      iexists W
      isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's own back: the scratch buffers' contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiD0_eq]
  iintro ⟨⟨HS0, HS1, HS2, HS3, HS4, HS5, HS6⟩, Hg, Hq, Hh0, Hh1⟩
  isplitl [HS0 HS1 HS2 HS3 HS4 HS5 HS6]
  · isplitl [HS0]; · iexact HS0
    isplitl [HS1]; · iexists _; iexact HS1
    isplitl [HS2]; · iexists _; iexact HS2
    isplitl [HS3]; · iexists _; iexact HS3
    isplitl [HS4]; · iexists _; iexact HS4
    isplitl [HS5]; · iexact HS5
    iexact HS6
  isplitl [Hg]; · iexact Hg
  isplitl [Hq]; · unfold sems; iexact Hq
  isplitl [Hh0]; · iexact Hh0
  iexact Hh1

/-! ## The run and the frame -/

set_option maxHeartbeats 800000 in
/-- `main` up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

-- the launch theorem's implicit arguments are found by unifying its conclusion with this one
set_option backward.isDefEq.respectTransparency.types false in
/-- Every execution ends with the pipeline's arrays as the proof data folds them, every other unscoped buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (fun (h : Pipeline.FramePost cfgs (dats m) 0 (V m) r) => ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), ((h c).2 main_arg7 (Pipeline.mem_restRefs_of main_arg7 (by decide) (by decide))).trans (V_main_arg7 m c)⟩) h.1, h.2⟩) (run_main_quiescent m ρ)

end Cert.KernelIdeal.Hand

end
-- ==== Proof.Transfer.lean ====
/- The printed kernel and the one printed for the ideal instance are the same text, so the frame proved for one is the other's. -/
module

public import proofs.«01_k».proof.Defs
public import proofs.«01_k».proof.Proof.Gen.Kernel
public import proofs.«01_k».proof.Proof.Gen.KernelIdeal
public import proofs.«01_k».proof.Proof.Launch

@[expose] public section

set_option maxRecDepth 100000

namespace Cert.Proof

open Idealize.ShloMosaic Idealize.SL.Sem
open Cert.Kernel.Gen Cert.KernelIdeal.Gen

variable {F : FTy → Type} [FloatOps F]

/-- The two programs' body tables are equal, -/
theorem defs₀_eq : Cert.Kernel.defs₀ (F := F) = Cert.KernelIdeal.defs₀ (F := F) := by
  refine congrArg Defs.onTc (funext fun x => funext fun a => ?_)
  match x, a with
  | ⟨0, _⟩, (t, s) => exact rfl

/-- and so are the tables with the pipeline's labels, -/
theorem defs_eq : Cert.Kernel.defs (F := F) = Cert.KernelIdeal.defs (F := F) := congrArg (Pipeline.defs _) defs₀_eq

/-- and so are the entry functions. -/
theorem main_eq : Cert.Kernel.main (F := F) = Cert.KernelIdeal.main (F := F) := rfl

/-- The frame of the printed kernel. -/
theorem frame_kernel : Cert.quiescent_Kernel := fun m ρ _ => by
  rw [defs_eq, main_eq]
  exact Cert.KernelIdeal.Hand.frame (F := Bits) m ρ

end Cert.Proof
-- ==== Proof.LPieces.lean ====
/- The load phase's stores: the 64 row blocks of the input projection and the 16 of the output projection, each copied through a slot of its
   ring, and the 16 groups' masked chunk weights and laid-out biases. Each list is one operation at an index. -/
module

public import proofs.«01_k».proof.Proof.Launch

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The input projection's weights: slot `s` of the ring at lap `n` carries row block `8 n + s` -/

theorem inbRA (s : Fin 8) : ∀ a, (![s.val, 0, 0] : Fin 3 → ℕ) a + S1x16x6144.size a ≤ S8x16x6144.size a := fun a => by fin_cases a <;> (simp [S1x16x6144, S8x16x6144]; try omega)
theorem inbPA (k : Fin 64) : ∀ a, (![16 * k.val, 0] : Fin 2 → ℕ) a + S16x6144.size a ≤ S1024x6144.size a := fun a => by fin_cases a <;> (simp [S16x6144, S1024x6144]; try omega)

/-- What one copy into the ring carries: row block `k` of the weights. -/
def dmaA (c : Dev nD) (fh : HbBuf0 (F := F) c hbM0_0) (k : Fin 64) : S16x6144.Idx → Elt F .f32 :=
  ReadAs.same.apply (View.read (Elt F) ((Memref.whole main_v3).slice (Rect.unit (s := S1024x6144) ![16 * k.val, 0] S16x6144.size (inbPA k)) (fun _ => .refl _)).view fh)
/-- What slot `s` has been written by lap `n`, the last copy first. -/
def histA (c : Dev nD) (fh : HbBuf0 (F := F) c hbM0_0) (s : Fin 8) : (n : ℕ) → n < 8 → List (View.Piece (Elt F) S16x6144 .f32)
  | 0, _ => [⟨Rect.whole S16x6144, dmaA c fh ⟨s.val, by omega⟩⟩]
  | n + 1, h => ⟨Rect.whole S16x6144, dmaA c fh ⟨8 * (n + 1) + s.val, by omega⟩⟩ :: histA c fh s n (Nat.lt_of_succ_lt h)
/-- The slot read back and rounded. -/
def payA (c : Dev nD) (M : Memref sig .tc .vmem S8x16x6144 .f32) (fh : HbBuf0 (F := F) c hbM0_0) (s : Fin 8) (n : ℕ) (h : n < 8) : FVec F S16x6144 .bf16 :=
  shapeCast S16x6144 (truncf .bf16 (shapeCast S16x6144 (View.readAt (Elt F) M.view (Rect.unit (s := S8x16x6144) ![s.val, 0, 0] S1x16x6144.size (inbRA s)).toLoadRect
    ((slotA M s.val (inbRA s)).view.writes (Elt F) (slotA M s.val (inbRA s)).view.junk (histA c fh s n h)) : Vec F S1x16x6144 .f32) shapeCasts_S1x16x6144_S16x6144 : FVec F S16x6144 .f32) bitsLt_bf16_f32) shapeCasts_S16x6144_S16x6144
/-- The first `n` stores, the last one first. -/
def aPieces (c : Dev nD) (M : Memref sig .tc .vmem S8x16x6144 .f32) (fh : HbBuf0 (F := F) c hbM0_0) : (n : ℕ) → n ≤ 64 → List (View.Piece (Elt F) S1024x6144 .bf16)
  | 0, _ => []
  | n + 1, h => ⟨Rect.unit (s := S1024x6144) ![16 * n, 0] S16x6144.size (inbPA ⟨n, h⟩), payA c M fh ⟨n % 8, by omega⟩ (n / 8) (by omega)⟩ :: aPieces c M fh n (Nat.le_of_succ_le h)

set_option maxHeartbeats 400000 in
/-- The run's stores into the input projection's scratch buffer are these. -/
theorem a_pieces (c : Dev nD) : (loadAt m c).1 = aPieces c scM0_5 (V m c main_v3) 64 le_rfl := by rfl

/-! ## The output projection's -/

theorem inbRB (s : Fin 8) : ∀ a, (![s.val, 0, 0] : Fin 3 → ℕ) a + S1x128x1024.size a ≤ S8x128x1024.size a := fun a => by fin_cases a <;> (simp [S1x128x1024, S8x128x1024]; try omega)
theorem inbPB (k : Fin 16) : ∀ a, (![128 * k.val, 0] : Fin 2 → ℕ) a + S128x1024.size a ≤ S2048x1024.size a := fun a => by fin_cases a <;> (simp [S128x1024, S2048x1024]; try omega)

/-- What one copy into the ring carries: row block `k` of the weights. -/
def dmaB (c : Dev nD) (fh : HbBuf0 (F := F) c hbM0_1) (k : Fin 16) : S128x1024.Idx → Elt F .f32 :=
  ReadAs.same.apply (View.read (Elt F) ((Memref.whole main_v10).slice (Rect.unit (s := S2048x1024) ![128 * k.val, 0] S128x1024.size (inbPB k)) (fun _ => .refl _)).view fh)
/-- What slot `s` has been written by lap `n`, the last copy first. -/
def histB (c : Dev nD) (fh : HbBuf0 (F := F) c hbM0_1) (s : Fin 8) : (n : ℕ) → n < 2 → List (View.Piece (Elt F) S128x1024 .f32)
  | 0, _ => [⟨Rect.whole S128x1024, dmaB c fh ⟨s.val, by omega⟩⟩]
  | n + 1, h => ⟨Rect.whole S128x1024, dmaB c fh ⟨8 * (n + 1) + s.val, by omega⟩⟩ :: histB c fh s n (Nat.lt_of_succ_lt h)
/-- The slot read back and rounded. -/
def payB (c : Dev nD) (M : Memref sig .tc .vmem S8x128x1024 .f32) (fh : HbBuf0 (F := F) c hbM0_1) (s : Fin 8) (n : ℕ) (h : n < 2) : FVec F S128x1024 .bf16 :=
  shapeCast S128x1024 (truncf .bf16 (shapeCast S128x1024 (View.readAt (Elt F) M.view (Rect.unit (s := S8x128x1024) ![s.val, 0, 0] S1x128x1024.size (inbRB s)).toLoadRect
    ((slotB M s.val (inbRB s)).view.writes (Elt F) (slotB M s.val (inbRB s)).view.junk (histB c fh s n h)) : Vec F S1x128x1024 .f32) shapeCasts_S1x128x1024_S128x1024 : FVec F S128x1024 .f32) bitsLt_bf16_f32) shapeCasts_S128x1024_S128x1024
/-- The first `n` stores, the last one first. -/
def bPieces (c : Dev nD) (M : Memref sig .tc .vmem S8x128x1024 .f32) (fh : HbBuf0 (F := F) c hbM0_1) : (n : ℕ) → n ≤ 16 → List (View.Piece (Elt F) S2048x1024 .bf16)
  | 0, _ => []
  | n + 1, h => ⟨Rect.unit (s := S2048x1024) ![128 * n, 0] S128x1024.size (inbPB ⟨n, h⟩), payB c M fh ⟨n % 8, by omega⟩ (n / 8) (by omega)⟩ :: bPieces c M fh n (Nat.le_of_succ_le h)

set_option maxHeartbeats 400000 in
/-- The run's stores into the output projection's scratch buffer are these. -/
theorem b_pieces (c : Dev nD) : (loadAt m c).2.1 = bPieces c scM0_6 (V m c main_v10) 16 le_rfl := by rfl

/-! ## The chunk weights and the biases, a group at a time -/

theorem inbPC (g : Fin 16) : ∀ a, (![g.val, 0, 0] : Fin 3 → ℕ) a + S1x128x128.size a ≤ S16x128x128.size a := fun a => by fin_cases a <;> (simp [S1x128x128, S16x128x128]; try omega)
theorem inbPD (g : Fin 16) : ∀ a, (![g.val, 0] : Fin 2 → ℕ) a + S1x128.size a ≤ S16x128.size a := fun a => by fin_cases a <;> (simp [S1x128, S16x128]; try omega)

/-- One group's chunk weights with the entries above the diagonal at zero, rounded. -/
def maskW (w : Vec F S1x128x128 .f32) : FVec F S1x128x128 .bf16 :=
  shapeCast S1x128x128 (truncf .bf16 (select (cmpi .sle (iota .tc S128x128 32 [1] iota_S128x128_d1_w32) (iota .tc S128x128 32 [0] iota_S128x128_d0_w32))
    (shapeCast S128x128 w shapeCasts_S1x128x128_S128x128 : FVec F S128x128 .f32) (broadcast S128x128 (Scalar.ofBits .f32 0x00000000#32))) bitsLt_bf16_f32) shapeCasts_S128x128_S1x128x128
/-- One group's biases, each along its row. -/
def biasW (b : Vec F S1x128 .f32) : FVec F S1x128x128 .f32 :=
  shapeCast S1x128x128 (transpose S128x128 [1, 0] (broadcastTo S128x128 (shapeCast S1x128 (shapeCast S1x128 b shapeCasts_S1x128_S1x128) shapeCasts_S1x128_S1x128 : FVec F S1x128 .f32) broadcasts_S1x128_S128x128) transposes_S128x128_p1_0_S128x128) shapeCasts_S128x128_S1x128x128

def cPieces (M : Memref sig .tc .vmem S16x128x128 .f32) (h : M.IsWhole) (x : Vec F S16x128x128 .f32) : (n : ℕ) → n ≤ 16 → List (View.Piece (Elt F) S16x128x128 .bf16)
  | 0, _ => []
  | n + 1, hn => ⟨Rect.unit (s := S16x128x128) ![n, 0, 0] S1x128x128.size (inbPC ⟨n, hn⟩), maskW (View.readAt (Elt F) M.view (Rect.unit (s := S16x128x128) ![n, 0, 0] S1x128x128.size (inbPC ⟨n, hn⟩)).toLoadRect (h.unread x))⟩ :: cPieces M h x n (Nat.le_of_succ_le hn)
def dPieces (M : Memref sig .tc .vmem S16x128 .f32) (h : M.IsWhole) (x : Vec F S16x128 .f32) : (n : ℕ) → n ≤ 16 → List (View.Piece (Elt F) S16x128x128 .f32)
  | 0, _ => []
  | n + 1, hn => ⟨Rect.unit (s := S16x128x128) ![n, 0, 0] S1x128x128.size (inbPC ⟨n, hn⟩), biasW (View.readAt (Elt F) M.view (Rect.unit (s := S16x128) ![n, 0] S1x128.size (inbPD ⟨n, hn⟩)).toLoadRect (h.unread x))⟩ :: dPieces M h x n (Nat.le_of_succ_le hn)

/-- The run's stores of the masked chunk weights -/
theorem c_pieces (c : Dev nD) : (loadAt m c).2.2.1 = cPieces (ms0_4 t0) (hs0_4 t0) (iblk m c 4 t0) 16 le_rfl := by rfl
/-- and of the biases. -/
theorem d_pieces (c : Dev nD) : (loadAt m c).2.2.2.val = dPieces (ms0_5 t0) (hs0_5 t0) (iblk m c 5 t0) 16 le_rfl := by rfl

end Cert.KernelIdeal.Hand

end
-- ==== Proof.LValue.lean ====
/- What the load phase leaves in the scratch buffers, element by element: both projections' weights as they are, the chunk weights with
   the entries above the diagonal at zero, and the biases along the lanes. -/
module

public import proofs.«01_k».proof.Proof.LPieces
public import Idealize.ShloMosaic.Lib.Pipeline.ValueKit
public import Idealize.ShloMosaic.Lib.Pointwise
public import Idealize.ShloMosaic.Lib.WordCmp
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise
variable (m : (ℓ : Loc nD τ sig) → Buf (Elt Ideal) ℓ)

/-- A slot read back is the latest copy into it. -/
theorem payA_eq (c : Dev nD) (M : Memref sig .tc .vmem S8x16x6144 .f32) (fh : HbBuf0 (F := Ideal) c hbM0_0) (s : Fin 8) (n : ℕ) (h : n < 8) (i : S16x6144.Idx) :
    payA c M fh s n h i = dmaA c fh ⟨8 * n + s.val, by omega⟩ i := by
  have h0 : payA c M fh s n h = (slotA M s.val (inbRA s)).view.read (Elt Ideal) ((slotA M s.val (inbRA s)).view.writes (Elt Ideal) (slotA M s.val (inbRA s)).view.junk (histA c fh s n h)) := by
    unfold payA
    rw [← Memref.read_squeeze_slice M (Rect.unit (s := S8x16x6144) ![s.val, 0, 0] S1x16x6144.size (inbRA s)) (fun _ => rfl) squeezes_S1x16x6144_S16x6144 shapeCasts_S1x16x6144_S16x6144]
    exact shapeCast_id _ _
  rw [h0]
  cases n with
  | zero =>
    have e := View.read_writes_cons_emb (slotA M s.val (inbRA s)).view (slotA M s.val (inbRA s)).view.junk (Rect.whole S16x6144) (dmaA c fh ⟨s.val, by omega⟩) [] i
    rw [Rect.emb_whole_apply] at e
    simpa [histA] using e
  | succ n =>
    have e := View.read_writes_cons_emb (slotA M s.val (inbRA s)).view (slotA M s.val (inbRA s)).view.junk (Rect.whole S16x6144) (dmaA c fh ⟨8 * (n + 1) + s.val, by omega⟩) (histA c fh s n (Nat.lt_of_succ_lt h)) i
    rw [Rect.emb_whole_apply] at e
    exact e

/-- A copy's element is the array's at the row block's place. -/
theorem dmaA_eq (c : Dev nD) (fh : HbBuf0 (F := Ideal) c hbM0_0) (k : Fin 64) (i : S16x6144.Idx) :
    dmaA c fh k i = fh ((Rect.unit (s := S1024x6144) ![16 * k.val, 0] S16x6144.size (inbPA k)).emb i) := rfl

theorem a_pieces_at (c : Dev nD) (M : Memref sig .tc .vmem S8x16x6144 .f32) (fh : HbBuf0 (F := Ideal) c hbM0_0) (n : ℕ) (h : n ≤ 64) :
    ∀ p ∈ aPieces c M fh n h, ∀ i, p.2 i = fh (p.1.emb i) := by
  induction n with
  | zero => intro p hp; simp [aPieces] at hp
  | succ n ih =>
    intro p hp i
    rcases List.mem_cons.mp hp with rfl | hp
    · refine (payA_eq c M fh _ _ _ i).trans ?_
      have hk : (⟨8 * (n / 8) + n % 8, by omega⟩ : Fin 64) = ⟨n, h⟩ := Fin.ext (Nat.div_add_mod n 8)
      exact (congrArg (fun k => dmaA c fh k i) hk).trans (dmaA_eq c fh ⟨n, h⟩ i)
    · exact ih _ p hp i

/-- What the load phase leaves in the projection's scratch buffer is the weight array. -/
theorem sc1_eq (c : Dev nD) (y : S1024x6144.Idx) : sc1 m c y = V m c main_v3 y := by
  have h := cover1 m c
  unfold sc1
  rw [a_pieces] at h ⊢
  exact View.canon_apply_of_pieces (V m c main_v3) _ (a_pieces_at c _ _ 64 le_rfl) y (h y)

/-- A slot read back is the latest copy into it. -/
theorem payB_eq (c : Dev nD) (M : Memref sig .tc .vmem S8x128x1024 .f32) (fh : HbBuf0 (F := Ideal) c hbM0_1) (s : Fin 8) (n : ℕ) (h : n < 2) (i : S128x1024.Idx) :
    payB c M fh s n h i = dmaB c fh ⟨8 * n + s.val, by omega⟩ i := by
  have h0 : payB c M fh s n h = (slotB M s.val (inbRB s)).view.read (Elt Ideal) ((slotB M s.val (inbRB s)).view.writes (Elt Ideal) (slotB M s.val (inbRB s)).view.junk (histB c fh s n h)) := by
    unfold payB
    rw [← Memref.read_squeeze_slice M (Rect.unit (s := S8x128x1024) ![s.val, 0, 0] S1x128x1024.size (inbRB s)) (fun _ => rfl) squeezes_S1x128x1024_S128x1024 shapeCasts_S1x128x1024_S128x1024]
    exact shapeCast_id _ _
  rw [h0]
  cases n with
  | zero =>
    have e := View.read_writes_cons_emb (slotB M s.val (inbRB s)).view (slotB M s.val (inbRB s)).view.junk (Rect.whole S128x1024) (dmaB c fh ⟨s.val, by omega⟩) [] i
    rw [Rect.emb_whole_apply] at e
    simpa [histB] using e
  | succ n =>
    have e := View.read_writes_cons_emb (slotB M s.val (inbRB s)).view (slotB M s.val (inbRB s)).view.junk (Rect.whole S128x1024) (dmaB c fh ⟨8 * (n + 1) + s.val, by omega⟩) (histB c fh s n (Nat.lt_of_succ_lt h)) i
    rw [Rect.emb_whole_apply] at e
    exact e

/-- A copy's element is the array's at the row block's place. -/
theorem dmaB_eq (c : Dev nD) (fh : HbBuf0 (F := Ideal) c hbM0_1) (k : Fin 16) (i : S128x1024.Idx) :
    dmaB c fh k i = fh ((Rect.unit (s := S2048x1024) ![128 * k.val, 0] S128x1024.size (inbPB k)).emb i) := rfl

theorem b_pieces_at (c : Dev nD) (M : Memref sig .tc .vmem S8x128x1024 .f32) (fh : HbBuf0 (F := Ideal) c hbM0_1) (n : ℕ) (h : n ≤ 16) :
    ∀ p ∈ bPieces c M fh n h, ∀ i, p.2 i = fh (p.1.emb i) := by
  induction n with
  | zero => intro p hp; simp [bPieces] at hp
  | succ n ih =>
    intro p hp i
    rcases List.mem_cons.mp hp with rfl | hp
    · refine (payB_eq c M fh _ _ _ i).trans ?_
      have hk : (⟨8 * (n / 8) + n % 8, by omega⟩ : Fin 16) = ⟨n, h⟩ := Fin.ext (Nat.div_add_mod n 8)
      exact (congrArg (fun k => dmaB c fh k i) hk).trans (dmaB_eq c fh ⟨n, h⟩ i)
    · exact ih _ p hp i

/-- What the load phase leaves in the projection's scratch buffer is the weight array. -/
theorem sc2_eq (c : Dev nD) (y : S2048x1024.Idx) : sc2 m c y = V m c main_v10 y := by
  have h := cover2 m c
  unfold sc2
  rw [b_pieces] at h ⊢
  exact View.canon_apply_of_pieces (V m c main_v10) _ (b_pieces_at c _ _ 16 le_rfl) y (h y)

/-! ## The chunk weights and biases -/

theorem maskW_at (w : Vec Ideal S1x128x128 .f32) (a : Fin 1) (i l : Fin 128) : maskW w (ix3 a i l) = if l.val ≤ i.val then w (ix3 0 i l) else 0 := by
  pointwise [maskW]
  rw [Idealize.ShloMosaic.WordCmp.cmpi_sle_ofNat (by omega) (by omega)]
  by_cases h : l.val ≤ i.val <;> simp [h, Scalar.select]

theorem biasW_at (b : Vec Ideal S1x128 .f32) (a : Fin 1) (i l : Fin 128) : biasW b (ix3 a i l) = b (ix2 0 i) := by
  pointwise [biasW]

/-- A unit rectangle's element sits at the offset plus its own place. -/
theorem unit_idx_val {s : Shape} (off size : Fin s.rank → ℕ) (inb : ∀ a, off a + size a ≤ s.size a) (j : (Rect.unit (s := s) off size inb).shape.Idx) (a : Fin s.rank) :
    ((Rect.unit (s := s) off size inb).idx j a).val = off a + (j a).val := by
  show off a + 1 * (j a).val = _
  omega

/-- The chunk weights and the biases, as the first point holds them. -/
abbrev blk4 (c : Dev nD) : Vec Ideal S16x128x128 .f32 := iblk m c 4 t0
abbrev blk5 (c : Dev nD) : Vec Ideal S16x128 .f32 := iblk m c 5 t0

theorem c_pieces_at (M : Memref sig .tc .vmem S16x128x128 .f32) (h : M.IsWhole) (x : Vec Ideal S16x128x128 .f32) (n : ℕ) (hn : n ≤ 16) :
    ∀ p ∈ cPieces M h x n hn, ∀ i, p.2 i = (fun y : S16x128x128.Idx => if (y 2).val ≤ (y 1).val then x y else 0) (p.1.emb i) := by
  induction n with
  | zero => intro p hp; simp [cPieces] at hp
  | succ n ih =>
    intro p hp i
    rcases List.mem_cons.mp hp with rfl | hp
    · idx_vars i
      refine (maskW_at _ _ _ _).trans ?_
      rw [h.readAt_unread]
      obtain rfl : i0 = 0 := Subsingleton.elim _ _
      have e1 : ((Rect.unit (s := S16x128x128) ![n, 0, 0] S1x128x128.size (inbPC ⟨n, hn⟩)).emb (ix3 0 i1 i2) 1).val = i1.val := (unit_idx_val _ _ _ _ _).trans (Nat.zero_add _)
      have e2 : ((Rect.unit (s := S16x128x128) ![n, 0, 0] S1x128x128.size (inbPC ⟨n, hn⟩)).emb (ix3 0 i1 i2) 2).val = i2.val := (unit_idx_val _ _ _ _ _).trans (Nat.zero_add _)
      exact (if_congr (by rw [e1, e2]) rfl rfl).symm
    · exact ih _ p hp i

theorem d_pieces_at (M : Memref sig .tc .vmem S16x128 .f32) (h : M.IsWhole) (x : Vec Ideal S16x128 .f32) (n : ℕ) (hn : n ≤ 16) :
    ∀ p ∈ dPieces M h x n hn, ∀ i, p.2 i = (fun y : S16x128x128.Idx => x (ix2 (y 0) (y 1))) (p.1.emb i) := by
  induction n with
  | zero => intro p hp; simp [dPieces] at hp
  | succ n ih =>
    intro p hp i
    rcases List.mem_cons.mp hp with rfl | hp
    · idx_vars i
      refine (biasW_at _ _ _ _).trans ?_
      rw [h.readAt_unread]
      refine congrArg x (funext fun a => Fin.ext ?_)
      match a with
      | 0 => exact (unit_idx_val _ _ _ _ _).trans (unit_idx_val (s := S16x128x128) ![n, 0, 0] S1x128x128.size (inbPC ⟨n, hn⟩) (ix3 i0 i1 i2) 0 |>.trans (by simp)).symm
      | 1 => exact (unit_idx_val _ _ _ _ _).trans (unit_idx_val (s := S16x128x128) ![n, 0, 0] S1x128x128.size (inbPC ⟨n, hn⟩) (ix3 i0 i1 i2) 1).symm
    · exact ih _ p hp i

/-- The chunk weights' scratch buffer: a group's weights on and below the diagonal. -/
theorem sc3_eq (c : Dev nD) (g : Fin 16) (i l : Fin 128) : sc3 m c (ix3 g i l) = if l.val ≤ i.val then blk4 m c (ix3 g i l) else 0 := by
  have h := cover3 m c
  unfold sc3
  rw [c_pieces] at h ⊢
  exact View.canon_apply_of_pieces (fun y : S16x128x128.Idx => if (y 2).val ≤ (y 1).val then blk4 m c y else 0) _ (c_pieces_at (ms0_4 t0) (hs0_4 t0) (blk4 m c) 16 le_rfl) _ (h _)

/-- The biases' scratch buffer: a row's bias in every lane. -/
theorem sc4_eq (c : Dev nD) (g : Fin 16) (i l : Fin 128) : sc4 m c (ix3 g i l) = blk5 m c (ix2 g i) := by
  have h := cover4 m c
  unfold sc4
  rw [d_pieces] at h ⊢
  exact View.canon_apply_of_pieces (fun y : S16x128x128.Idx => blk5 m c (ix2 (y 0) (y 1))) _ (d_pieces_at (ms0_5 t0) (hs0_5 t0) (blk5 m c) 16 le_rfl) _ (h _)
end Cert.KernelIdeal.Hand

end
-- ==== Proof.YPieces.lean ====
/- The 128 stores of the gated activations: each is one group's columns of one chunk's rows, and they are all one operation at a group and
   a chunk. -/
module

public import proofs.«01_k».proof.Proof.Compute

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Group `g`'s columns of the 2048, -/
theorem slD (g : Fin 16) : S1024x2048.Slices ![0, 128 * g.val] S1024x128 := ⟨rfl, fun a => by fin_cases a <;> (simp [S1024x2048, S1024x128]; try omega)⟩
/-- chunk `c`'s rows of a group's columns, -/
theorem slV (c : Fin 8) : S1024x128.Slices ![128 * c.val, 0] S128x128 := ⟨rfl, fun a => by fin_cases a <;> (simp [S1024x128, S128x128]; try omega)⟩
/-- chunk `c`'s rows and group `b`'s columns of four groups' columns. -/
theorem slU (c : Fin 8) (b : Fin 4) : S1024x512.Slices ![128 * c.val, 128 * b.val] S128x128 := ⟨rfl, fun a => by fin_cases a <;> (simp [S1024x512, S128x128]; try omega)⟩
theorem inbU (q : Fin 4) : ∀ a, (![0, 512 * q.val] : Fin 2 → ℕ) a + S1024x512.size a ≤ S1024x6144.size a := fun a => by fin_cases a <;> (simp [S1024x512, S1024x6144]; try omega)
theorem inbG (q : Fin 4) : ∀ a, (![0, 4096 + 512 * q.val] : Fin 2 → ℕ) a + S1024x512.size a ≤ S1024x6144.size a := fun a => by fin_cases a <;> (simp [S1024x512, S1024x6144]; try omega)
theorem inbL (g : Fin 16) : ∀ a, (![0, 128 * g.val] : Fin 2 → ℕ) a + S1x128.size a ≤ S1x2048.size a := fun a => by fin_cases a <;> (simp [S1x128, S1x2048]; try omega)
theorem inbW (g : Fin 16) : ∀ a, (![g.val, 0, 0] : Fin 3 → ℕ) a + S1x128x128.size a ≤ S16x128x128.size a := fun a => by fin_cases a <;> (simp [S1x128x128, S16x128x128]; try omega)
theorem inbY (c : Fin 8) (g : Fin 16) : ∀ a, (![128 * c.val, 128 * g.val] : Fin 2 → ℕ) a + S128x128.size a ≤ S1024x2048.size a := fun a => by fin_cases a <;> (simp [S128x128, S1024x2048]; try omega)

/-- One group's normalised columns, from the shifted columns `d`, their mean `m1` and the reciprocal deviation `rs`. -/
def vnG (g : Fin 16) (d : FVec F S1024x2048 .f32) (m1 rs : FVec F S1024x1 .f32) (lg lb : Vec F S1x128 .f32) : FVec F S1024x128 .bf16 :=
  truncf .bf16 (addf (mulf (mulf (subf (extractStridedSlice S1024x128 ![0, 128 * g.val] d (slD g)) (broadcastTo S1024x128 m1 broadcasts_S1024x1_S1024x128)) (broadcastTo S1024x128 rs broadcasts_S1024x1_S1024x128)) (broadcastTo S1024x128 (shapeCast S1x128 lg shapeCasts_S1x128_S1x128) broadcasts_S1x128_S1024x128)) (broadcastTo S1024x128 (shapeCast S1x128 lb shapeCasts_S1x128_S1x128) broadcasts_S1x128_S1024x128)) bitsLt_bf16_f32

/-- Half of a chunk's gate, -/
def hgG (b : Fin 4) (c : Fin 8) (gt : FVec F S1024x512 .f32) : FVec F S128x128 .f32 :=
  mulf (broadcast S128x128 (Scalar.ofBits .f32 0x3F000000#32)) (extractStridedSlice S128x128 ![128 * c.val, 128 * b.val] gt (slU c b))
/-- and the gated activations of one group's chunk. -/
def yG (b : Fin 4) (c : Fin 8) (vn : FVec F S1024x128 .bf16) (u gt : FVec F S1024x512 .f32) (w : Vec F S1x128x128 .bf16) (bs : Vec F S1x128x128 .f32) : FVec F S128x128 .bf16 :=
  shapeCast S128x128 (truncf .bf16 (mulf (mulf (extractStridedSlice S128x128 ![128 * c.val, 128 * b.val] u (slU c b))
      (addf (matmul dot_S128x128_S128x128_S128x128_1_0_0_1_n_n none (shapeCast S128x128 w shapeCasts_S1x128x128_S128x128 : FVec F S128x128 .bf16) (extractStridedSlice S128x128 ![128 * c.val, 0] vn (slV c)) (constant S128x128 .f32 0x00000000#32))
        (shapeCast S128x128 bs shapeCasts_S1x128x128_S128x128)))
      (mulf (hgG b c gt) (addf (broadcast S128x128 (Scalar.ofBits .f32 0x3F800000#32)) (tanh (hgG b c gt))))) bitsLt_bf16_f32) shapeCasts_S128x128_S128x128

/-- Store `n` of the 128: chunk `n % 8` of group `n / 8`. -/
def yPiece (c : Dev nD) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg11 : Memref sig .tc .vmem S1024x6144 .bf16) (harg11 : arg11.IsWhole) (arg13 : Memref sig .tc .vmem S16x128x128 .bf16) (harg13 : arg13.IsWhole) (arg14 : Memref sig .tc .vmem S16x128x128 .f32) (harg14 : arg14.IsWhole)
    (x0 : Vec F S1024x1024 .f32) (x1 : Vec F S1x1024 .f32) (x2 : Vec F S1x2048 .f32) (x3 : Vec F S1x2048 .f32) (xs1 : Vec F S1024x6144 .bf16) (xs3 : Vec F S16x128x128 .bf16) (xs4 : Vec F S16x128x128 .f32) (n : Fin 128) : View.Piece (Elt F) S1024x2048 .bf16 :=
  have g : Fin 16 := ⟨n.val / 8, by omega⟩
  have k : Fin 8 := ⟨n.val % 8, by omega⟩
  have q : Fin 4 := ⟨n.val / 8 / 4, by omega⟩
  have b : Fin 4 := ⟨n.val / 8 % 4, by omega⟩
  ⟨Rect.unit (s := S1024x2048) ![128 * k.val, 128 * g.val] S128x128.size (inbY k g),
    yG b k (vnG g (k0_pay122 (View.readAt (Elt F) arg1.view (Rect.unit (s := S1024x1024) ![0, 0] S1024x1024.size inb_S1024x1024_S1024x1024_0_0).toLoadRect (harg1.unread x0)) (View.readAt (Elt F) arg2.view (Rect.unit (s := S1x1024) ![0, 0] S1x1024.size inb_S1x1024_S1x1024_0_0).toLoadRect (harg2.unread x1)) (View.readAt (Elt F) arg11.view (Rect.unit (s := S1024x6144) ![0, 2048] S1024x2048.size inb_S1024x6144_S1024x2048_0_2048).toLoadRect (harg11.unread xs1))) (k0_pay123 (View.readAt (Elt F) arg1.view (Rect.unit (s := S1024x1024) ![0, 0] S1024x1024.size inb_S1024x1024_S1024x1024_0_0).toLoadRect (harg1.unread x0)) (View.readAt (Elt F) arg2.view (Rect.unit (s := S1x1024) ![0, 0] S1x1024.size inb_S1x1024_S1x1024_0_0).toLoadRect (harg2.unread x1)) (View.readAt (Elt F) arg11.view (Rect.unit (s := S1024x6144) ![0, 2048] S1024x2048.size inb_S1024x6144_S1024x2048_0_2048).toLoadRect (harg11.unread xs1))) (k0_pay125 (k0_pay124 (View.readAt (Elt F) arg1.view (Rect.unit (s := S1024x1024) ![0, 0] S1024x1024.size inb_S1024x1024_S1024x1024_0_0).toLoadRect (harg1.unread x0)) (View.readAt (Elt F) arg2.view (Rect.unit (s := S1x1024) ![0, 0] S1x1024.size inb_S1x1024_S1x1024_0_0).toLoadRect (harg2.unread x1)) (View.readAt (Elt F) arg11.view (Rect.unit (s := S1024x6144) ![0, 2048] S1024x2048.size inb_S1024x6144_S1024x2048_0_2048).toLoadRect (harg11.unread xs1)))) (View.readAt (Elt F) arg4.view (Rect.unit (s := S1x2048) ![0, 128 * g.val] S1x128.size (inbL g)).toLoadRect (harg4.unread x2)) (View.readAt (Elt F) arg5.view (Rect.unit (s := S1x2048) ![0, 128 * g.val] S1x128.size (inbL g)).toLoadRect (harg5.unread x3)))
      (k0_pay126 (k0_pay121 (View.readAt (Elt F) arg1.view (Rect.unit (s := S1024x1024) ![0, 0] S1024x1024.size inb_S1024x1024_S1024x1024_0_0).toLoadRect (harg1.unread x0)) (View.readAt (Elt F) arg2.view (Rect.unit (s := S1x1024) ![0, 0] S1x1024.size inb_S1x1024_S1x1024_0_0).toLoadRect (harg2.unread x1))) (View.readAt (Elt F) arg11.view (Rect.unit (s := S1024x6144) ![0, 512 * q.val] S1024x512.size (inbU q)).toLoadRect (harg11.unread xs1))) (k0_pay127 (k0_pay121 (View.readAt (Elt F) arg1.view (Rect.unit (s := S1024x1024) ![0, 0] S1024x1024.size inb_S1024x1024_S1024x1024_0_0).toLoadRect (harg1.unread x0)) (View.readAt (Elt F) arg2.view (Rect.unit (s := S1x1024) ![0, 0] S1x1024.size inb_S1x1024_S1x1024_0_0).toLoadRect (harg2.unread x1))) (View.readAt (Elt F) arg11.view (Rect.unit (s := S1024x6144) ![0, 4096 + 512 * q.val] S1024x512.size (inbG q)).toLoadRect (harg11.unread xs1)))
      (View.readAt (Elt F) arg13.view (Rect.unit (s := S16x128x128) ![g.val, 0, 0] S1x128x128.size (inbW g)).toLoadRect (harg13.unread xs3)) (View.readAt (Elt F) arg14.view (Rect.unit (s := S16x128x128) ![g.val, 0, 0] S1x128x128.size (inbW g)).toLoadRect (harg14.unread xs4))⟩

/-- The first `n` stores, the last one first. -/
def yPieces (c : Dev nD) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg11 : Memref sig .tc .vmem S1024x6144 .bf16) (harg11 : arg11.IsWhole) (arg13 : Memref sig .tc .vmem S16x128x128 .bf16) (harg13 : arg13.IsWhole) (arg14 : Memref sig .tc .vmem S16x128x128 .f32) (harg14 : arg14.IsWhole)
    (x0 : Vec F S1024x1024 .f32) (x1 : Vec F S1x1024 .f32) (x2 : Vec F S1x2048 .f32) (x3 : Vec F S1x2048 .f32) (xs1 : Vec F S1024x6144 .bf16) (xs3 : Vec F S16x128x128 .bf16) (xs4 : Vec F S16x128x128 .f32) : (n : ℕ) → n ≤ 128 → List (View.Piece (Elt F) S1024x2048 .bf16)
  | 0, _ => []
  | n + 1, h => yPiece c arg1 harg1 arg2 harg2 arg4 harg4 arg5 harg5 arg11 harg11 arg13 harg13 arg14 harg14 x0 x1 x2 x3 xs1 xs3 xs4 ⟨n, h⟩ :: yPieces c arg1 harg1 arg2 harg2 arg4 harg4 arg5 harg5 arg11 harg11 arg13 harg13 arg14 harg14 x0 x1 x2 x3 xs1 xs3 xs4 n (Nat.le_of_succ_le h)

set_option maxHeartbeats 4000000 in
/-- The run's stores are these. -/
theorem y_pieces (c : Dev nD) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg11 : Memref sig .tc .vmem S1024x6144 .bf16) (harg11 : arg11.IsWhole) (arg13 : Memref sig .tc .vmem S16x128x128 .bf16) (harg13 : arg13.IsWhole) (arg14 : Memref sig .tc .vmem S16x128x128 .f32) (harg14 : arg14.IsWhole)
    (x0 : Vec F S1024x1024 .f32) (x1 : Vec F S1x1024 .f32) (x2 : Vec F S1x2048 .f32) (x3 : Vec F S1x2048 .f32) (xs1 : Vec F S1024x6144 .bf16) (xs3 : Vec F S16x128x128 .bf16) (xs4 : Vec F S16x128x128 .f32) :
    computeRun.sl.H10_128 c arg1 harg1 arg2 harg2 arg4 harg4 arg5 harg5 arg11 harg11 arg13 harg13 arg14 harg14 x0 x1 x2 x3 xs1 xs3 xs4 = yPieces c arg1 harg1 arg2 harg2 arg4 harg4 arg5 harg5 arg11 harg11 arg13 harg13 arg14 harg14 x0 x1 x2 x3 xs1 xs3 xs4 128 le_rfl := by
  rfl

end Cert.KernelIdeal.Hand

end
-- ==== Proof.Rows.lean ====
/- The layer on rows of extended reals: what one row's norm, projections, channel norm and gate are, and what the kernel makes of them. -/
module

public import Idealize.ShloMosaic.Lib.Pointwise

@[expose] public section

noncomputable section

namespace Cert.Rows

open Idealize.ShloMosaic

/-- The constants as their float words: 1024, 2048, 128, the norms' 1e-5 and a half. -/
abbrev c1024 : EReal := Ideal.ofBits .f32 0x44800000#32
abbrev c2048 : EReal := Ideal.ofBits .f32 0x45000000#32
abbrev c128 : EReal := Ideal.ofBits .f32 0x43000000#32
abbrev eps : EReal := Ideal.ofBits .f32 0x3727C5AC#32
abbrev half : EReal := Ideal.ofBits .f32 0x3F000000#32

/-- A row divided by its root mean square, times the gains. -/
def hn (x g : Fin 1024 → EReal) (k : Fin 1024) : EReal :=
  x k * Ideal.rsqrt (Ideal.div (∑ a, x a * x a) c1024 + eps) * g k
/-- The normed row's input projection at a column. -/
def proj (x g : Fin 1024 → EReal) (W : Fin 1024 → Fin 6144 → EReal) (j : Fin 6144) : EReal := ∑ k, hn x g k * W k j

/-- The projection's three parts: the multiplier's columns, the mixed ones and the gate's. -/
def uCol (j : Fin 2048) : Fin 6144 := ⟨j.val, by omega⟩
def vCol (j : Fin 2048) : Fin 6144 := ⟨2048 + j.val, by omega⟩
def gCol (j : Fin 2048) : Fin 6144 := ⟨4096 + j.val, by omega⟩
/-- A column's group of 128, and a row's chunk of 128: the row in its chunk, and the chunk's row `l`. -/
def grp (j : Fin 2048) : Fin 16 := ⟨j.val / 128, by omega⟩
def inChunk (r : Fin 1024) : Fin 128 := ⟨r.val % 128, by omega⟩
def chunkRow (r : Fin 1024) (l : Fin 128) : Fin 1024 := ⟨128 * (r.val / 128) + l.val, by omega⟩

def mean (d : Fin 2048 → EReal) : EReal := Ideal.div (∑ j, d j) c2048
/-- The kernel's shift: every channel less the mean of the first 128. -/
def shift (v : Fin 2048 → EReal) (j : Fin 2048) : EReal := v j - Ideal.div (∑ a : Fin 128, v ⟨a.val, by omega⟩) c128
/-- The kernel's channel norm: on the shifted channels, the variance as the mean square less the squared mean. -/
def normK (v lg lb : Fin 2048 → EReal) (j : Fin 2048) : EReal :=
  (shift v j - mean (shift v)) * Ideal.rsqrt ((mean (fun i => shift v i * shift v i) - mean (shift v) * mean (shift v)) + eps) * lg j + lb j
/-- The kernel's gate: half of `z` times one more than the hyperbolic tangent of it. -/
def gateK (z : EReal) : EReal := half * z * (1 + Ideal.tanh (half * z))

/-- The kernel's gated activations at a row of a block of rows and a column. -/
def yK (X : Fin 1024 → Fin 1024 → EReal) (ng : Fin 1024 → EReal) (W : Fin 1024 → Fin 6144 → EReal) (lg lb : Fin 2048 → EReal)
    (wm : Fin 16 → Fin 128 → Fin 128 → EReal) (bs : Fin 16 → Fin 128 → EReal) (r : Fin 1024) (j : Fin 2048) : EReal :=
  proj (X r) ng W (uCol j) * (∑ l, wm (grp j) (inChunk r) l * normK (fun i => proj (X (chunkRow r l)) ng W (vCol i)) lg lb j + bs (grp j) (inChunk r))
    * gateK (proj (X r) ng W (gCol j))

/-- The reference's channel norm: the centred channels by their standard deviation, -/
def normR (v lg lb : Fin 2048 → EReal) (j : Fin 2048) : EReal :=
  (v j - mean v) * Ideal.rsqrt (mean (fun i => (v i - mean v) * (v i - mean v)) + eps) * lg j + lb j
/-- its gate, `z` times the logistic function of it, -/
def gateR (z : EReal) : EReal := z * Ideal.div 1 (1 + Ideal.exp (-z))
/-- the row that is `l`-th in the chunk of row `R` of all the rows, -/
def chunkOf (R : Fin 16384) (l : Fin 128) : Fin 16384 := ⟨128 * (R.val / 128) + l.val, by omega⟩
def placeIn (R : Fin 16384) : Fin 128 := ⟨R.val % 128, by omega⟩
/-- and its gated activations at a row and a column. -/
def yR (X : Fin 16384 → Fin 1024 → EReal) (ng : Fin 1024 → EReal) (W : Fin 1024 → Fin 6144 → EReal) (lg lb : Fin 2048 → EReal)
    (wm : Fin 16 → Fin 128 → Fin 128 → EReal) (bs : Fin 16 → Fin 128 → EReal) (R : Fin 16384) (j : Fin 2048) : EReal :=
  proj (X R) ng W (uCol j) * (∑ l, normR (fun i => proj (X (chunkOf R l)) ng W (vCol i)) lg lb j * wm (grp j) (placeIn R) l + bs (grp j) (placeIn R))
    * gateR (proj (X R) ng W (gCol j))

end Cert.Rows

end
-- ==== Proof.YValue.lean ====
/- The computation's output block at an index, in terms of its rows. -/
module

public import proofs.«01_k».proof.Proof.Launch
public import proofs.«01_k».proof.Proof.YPieces
public import proofs.«01_k».proof.Proof.Rows
public import Idealize.ShloMosaic.Lib.Pipeline.ValueKit
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise Cert.Rows
variable (m : (ℓ : Loc nD τ sig) → Buf (Elt Ideal) ℓ)

/-! ## The payloads at an index -/

theorem pay121_at (x : Vec Ideal S1024x1024 .f32) (g : Vec Ideal S1x1024 .f32) (r k : Fin 1024) :
    k0_pay121 x g (ix2 r k) = hn (fun a => x (ix2 r a)) (fun a => g (ix2 0 a)) k := by
  have h0 : k0_pay120 x = x := shapeCast_id _ _
  pointwise [k0_pay121]
  rw [h0]; rfl

theorem pay122_at (x : Vec Ideal S1024x1024 .f32) (g : Vec Ideal S1x1024 .f32) (w : Vec Ideal S1024x2048 .bf16) (r : Fin 1024) (j : Fin 2048) :
    k0_pay122 x g w (ix2 r j) = shift (fun j => ∑ k, hn (fun a => x (ix2 r a)) (fun a => g (ix2 0 a)) k * w (ix2 k j)) j := by
  pointwise [k0_pay122]
  simp only [pay121_at]
  rfl

theorem pay123_at (x : Vec Ideal S1024x1024 .f32) (g : Vec Ideal S1x1024 .f32) (w : Vec Ideal S1024x2048 .bf16) (r : Fin 1024) (z : Fin 1) :
    k0_pay123 x g w (ix2 r z) = mean (shift (fun j => ∑ k, hn (fun a => x (ix2 r a)) (fun a => g (ix2 0 a)) k * w (ix2 k j))) := by
  pointwise [k0_pay123]
  simp only [pay122_at]
  rfl

theorem pay125_at (x : Vec Ideal S1024x1024 .f32) (g : Vec Ideal S1x1024 .f32) (w : Vec Ideal S1024x2048 .bf16) (r : Fin 1024) (z : Fin 1)
    (v : Fin 2048 → EReal) (hv : v = fun j => ∑ k, hn (fun a => x (ix2 r a)) (fun a => g (ix2 0 a)) k * w (ix2 k j)) :
    k0_pay125 (k0_pay124 x g w) (ix2 r z) = Ideal.rsqrt ((mean (fun i => shift v i * shift v i) - mean (shift v) * mean (shift v)) + eps) := by
  subst hv
  pointwise [k0_pay125, k0_pay124]
  simp only [pay122_at, pay123_at]
  rfl

theorem vnG_at (x : Vec Ideal S1024x1024 .f32) (ng : Vec Ideal S1x1024 .f32) (w : Vec Ideal S1024x2048 .bf16) (g : Fin 16) (lg lb : Vec Ideal S1x128 .f32) (r : Fin 1024) (j : Fin 128)
    (LG LB v : Fin 2048 → EReal) (J : Fin 2048) (hJ : J.val = 128 * g.val + j.val) (hlg : lg (ix2 0 j) = LG J) (hlb : lb (ix2 0 j) = LB J)
    (hv : v = fun j => ∑ k, hn (fun a => x (ix2 r a)) (fun a => ng (ix2 0 a)) k * w (ix2 k j)) :
    vnG g (k0_pay122 x ng w) (k0_pay123 x ng w) (k0_pay125 (k0_pay124 x ng w)) lg lb (ix2 r j) = normK v LG LB J := by
  have eJ : ∀ h, (⟨128 * g.val + j.val, h⟩ : Fin 2048) = J := fun _ => Fin.ext hJ.symm
  pointwise [vnG]
  rw [eJ, hlg, hlb, pay125_at x ng w r 0 v hv, pay122_at, pay123_at]
  subst hv
  rfl

theorem pay126_at (v : FVec Ideal S1024x1024 .bf16) (w : Vec Ideal S1024x512 .bf16) (r : Fin 1024) (k : Fin 512) : k0_pay126 v w (ix2 r k) = ∑ x, v (ix2 r x) * w (ix2 x k) := by
  pointwise [k0_pay126]
theorem pay127_at (v : FVec Ideal S1024x1024 .bf16) (w : Vec Ideal S1024x512 .bf16) (r : Fin 1024) (k : Fin 512) : k0_pay127 v w (ix2 r k) = ∑ x, v (ix2 r x) * w (ix2 x k) := by
  pointwise [k0_pay127]

theorem yG_at (b : Fin 4) (c : Fin 8) (vn : FVec Ideal S1024x128 .bf16) (u gt : FVec Ideal S1024x512 .f32) (w : Vec Ideal S1x128x128 .bf16) (bs : Vec Ideal S1x128x128 .f32) (i j : Fin 128)
    (U G B : EReal) (Wm Vn : Fin 128 → EReal) (hU : ∀ h h', u (ix2 ⟨128 * c.val + i.val, h⟩ ⟨128 * b.val + j.val, h'⟩) = U) (hG : ∀ h h', gt (ix2 ⟨128 * c.val + i.val, h⟩ ⟨128 * b.val + j.val, h'⟩) = G)
    (hW : ∀ l, w (ix3 0 i l) = Wm l) (hV : ∀ (l : Fin 128) h, vn (ix2 ⟨128 * c.val + l.val, h⟩ j) = Vn l) (hB : bs (ix3 0 i j) = B) :
    yG b c vn u gt w bs (ix2 i j) = U * (∑ l, Wm l * Vn l + B) * gateK G := by
  pointwise [yG, hgG]
  simp only [hU, hG, hW, hV, hB]
  rfl

/-! ## Loads of a whole buffer's part -/

theorem ld2 {e : EltTy} {n0 n1 k0 k1 o0 o1 : ℕ} (M : Memref sig .tc .vmem ⟨2, ![n0, n1]⟩ e) (h : M.IsWhole) (x : Vec Ideal ⟨2, ![n0, n1]⟩ e)
    (inb : ∀ a, (![o0, o1] : Fin 2 → ℕ) a + (![k0, k1] : Fin 2 → ℕ) a ≤ (⟨2, ![n0, n1]⟩ : Shape).size a) (a : Fin k0) (b : Fin k1) (A : Fin n0) (B : Fin n1) (hA : A.val = o0 + a.val) (hB : B.val = o1 + b.val) :
    View.readAt (Elt Ideal) M.view (Rect.unit (s := ⟨2, ![n0, n1]⟩) ![o0, o1] ![k0, k1] inb).toLoadRect (h.unread x) (ix2 a b) = x (ix2 A B) := by
  rw [h.readAt_unread]
  refine congrArg x (funext fun d => Fin.ext ?_)
  match d with
  | 0 => show o0 + 1 * a.val = A.val; omega
  | 1 => show o1 + 1 * b.val = B.val; omega

theorem ld3 {e : EltTy} {n0 n1 n2 k0 k1 k2 o0 o1 o2 : ℕ} (M : Memref sig .tc .vmem ⟨3, ![n0, n1, n2]⟩ e) (h : M.IsWhole) (x : Vec Ideal ⟨3, ![n0, n1, n2]⟩ e)
    (inb : ∀ a, (![o0, o1, o2] : Fin 3 → ℕ) a + (![k0, k1, k2] : Fin 3 → ℕ) a ≤ (⟨3, ![n0, n1, n2]⟩ : Shape).size a) (a : Fin k0) (b : Fin k1) (d : Fin k2) (A : Fin n0) (B : Fin n1) (D : Fin n2)
    (hA : A.val = o0 + a.val) (hB : B.val = o1 + b.val) (hD : D.val = o2 + d.val) :
    View.readAt (Elt Ideal) M.view (Rect.unit (s := ⟨3, ![n0, n1, n2]⟩) ![o0, o1, o2] ![k0, k1, k2] inb).toLoadRect (h.unread x) (ix3 a b d) = x (ix3 A B D) := by
  rw [h.readAt_unread]
  refine congrArg x (funext fun d' => Fin.ext ?_)
  match d' with
  | 0 => show o0 + 1 * a.val = A.val; omega
  | 1 => show o1 + 1 * b.val = B.val; omega
  | 2 => show o2 + 1 * d.val = D.val; omega

theorem ld_whole {e : EltTy} {n0 n1 : ℕ} (M : Memref sig .tc .vmem ⟨2, ![n0, n1]⟩ e) (h : M.IsWhole) (x : Vec Ideal ⟨2, ![n0, n1]⟩ e)
    (inb : ∀ a, (![0, 0] : Fin 2 → ℕ) a + (![n0, n1] : Fin 2 → ℕ) a ≤ (⟨2, ![n0, n1]⟩ : Shape).size a) :
    View.readAt (Elt Ideal) M.view (Rect.unit (s := ⟨2, ![n0, n1]⟩) ![0, 0] ![n0, n1] inb).toLoadRect (h.unread x) = x := by
  funext i
  have e := ld2 M h x inb (i 0) (i 1) (i 0) (i 1) (Nat.zero_add _).symm (Nat.zero_add _).symm
  rwa [ix2_eta] at e

/-! ## The gated activations -/

/-- Each store holds, at its place, the gated activations of its rows: the biases are the same in every lane (`hbs`). -/
theorem y_piece_at (c : Dev nD) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg11 : Memref sig .tc .vmem S1024x6144 .bf16) (harg11 : arg11.IsWhole) (arg13 : Memref sig .tc .vmem S16x128x128 .bf16) (harg13 : arg13.IsWhole) (arg14 : Memref sig .tc .vmem S16x128x128 .f32) (harg14 : arg14.IsWhole)
    (x0 : Vec Ideal S1024x1024 .f32) (x1 : Vec Ideal S1x1024 .f32) (x2 : Vec Ideal S1x2048 .f32) (x3 : Vec Ideal S1x2048 .f32) (xs1 : Vec Ideal S1024x6144 .bf16) (xs3 : Vec Ideal S16x128x128 .bf16) (xs4 : Vec Ideal S16x128x128 .f32) (BS : Fin 16 → Fin 128 → EReal) (hbs : ∀ g i j, xs4 (ix3 g i j) = BS g i) (n : Fin 128) (i : S128x128.Idx) :
    (yPiece c arg1 harg1 arg2 harg2 arg4 harg4 arg5 harg5 arg11 harg11 arg13 harg13 arg14 harg14 x0 x1 x2 x3 xs1 xs3 xs4 n).2 i = (fun y : S1024x2048.Idx => yK (fun r k => x0 (ix2 r k)) (fun k => x1 (ix2 0 k)) (fun k j => xs1 (ix2 k j)) (fun j => x2 (ix2 0 j)) (fun j => x3 (ix2 0 j)) (fun g i l => xs3 (ix3 g i l)) BS (y 0) (y 1)) ((yPiece c arg1 harg1 arg2 harg2 arg4 harg4 arg5 harg5 arg11 harg11 arg13 harg13 arg14 harg14 x0 x1 x2 x3 xs1 xs3 xs4 n).1.emb i) := by
  have e : ((yPiece c arg1 harg1 arg2 harg2 arg4 harg4 arg5 harg5 arg11 harg11 arg13 harg13 arg14 harg14 x0 x1 x2 x3 xs1 xs3 xs4 n).1.emb i) = (ix2 (⟨128 * (n.val % 8) + (i 0).val, by have h : (i 0).val < 128 := (i 0).isLt; omega⟩ : Fin 1024) (⟨128 * (n.val / 8) + (i 1).val, by have h : (i 1).val < 128 := (i 1).isLt; omega⟩ : Fin 2048) : S1024x2048.Idx) := by
    funext a
    match a with
    | 0 => exact Fin.ext (by show 128 * (n.val % 8) + 1 * (i 0).val = 128 * (n.val % 8) + (i 0).val; omega)
    | 1 => exact Fin.ext (by show 128 * (n.val / 8) + 1 * (i 1).val = 128 * (n.val / 8) + (i 1).val; omega)
  rw [e]
  dsimp only [ix2_0, ix2_1]
  obtain ⟨a, b, rfl⟩ : ∃ (a b : Fin 128), i = ix2 a b := ⟨i 0, i 1, (ix2_eta i).symm⟩
  obtain ⟨R, hR⟩ : ∃ R : Fin 1024, R.val = 128 * (n.val % 8) + a.val := ⟨⟨128 * (n.val % 8) + a.val, by omega⟩, rfl⟩
  obtain ⟨J, hJ⟩ : ∃ J : Fin 2048, J.val = 128 * (n.val / 8) + b.val := ⟨⟨128 * (n.val / 8) + b.val, by omega⟩, rfl⟩
  have eR : ∀ h, (⟨128 * (n.val % 8) + a.val, h⟩ : Fin 1024) = R := fun _ => Fin.ext hR.symm
  have eJ : ∀ h, (⟨128 * (n.val / 8) + b.val, h⟩ : Fin 2048) = J := fun _ => Fin.ext hJ.symm
  have hg : grp J = ⟨n.val / 8, by omega⟩ := Fin.ext (by show J.val / 128 = n.val / 8; omega)
  have hr : inChunk R = a := Fin.ext (by show R.val % 128 = _; omega)
  have hl : ∀ (l : Fin 128), (chunkRow R l).val = 128 * (n.val % 8) + l.val := fun l => by show 128 * (R.val / 128) + l.val = _; omega
  refine Eq.trans ?_ (congrArg₂ (yK _ _ _ _ _ _ _) (eR _) (eJ _)).symm
  unfold yK yPiece
  dsimp only
  rw [ld_whole arg1 harg1 x0, ld_whole arg2 harg2 x1, hg, hr]
  refine yG_at _ _ _ _ _ _ _ a b _ _ _ _ _ (fun h h' => ?hU) (fun h h' => ?hG) (fun l => ?hW) (fun l h => ?hV) ?hB
  case hU =>
    rw [eR]
    refine (pay126_at _ _ _ _).trans (Finset.sum_congr rfl fun k _ => congrArg₂ (· * ·) (pay121_at _ _ _ _) ?_)
    exact ld2 _ _ _ _ k _ k (uCol J) (Nat.zero_add _).symm (by show J.val = 512 * (n.val / 8 / 4) + (128 * (n.val / 8 % 4) + b.val); omega)
  case hG =>
    rw [eR]
    refine (pay127_at _ _ _ _).trans (Finset.sum_congr rfl fun k _ => congrArg₂ (· * ·) (pay121_at _ _ _ _) ?_)
    exact ld2 _ _ _ _ k _ k (gCol J) (Nat.zero_add _).symm (by show 4096 + J.val = 4096 + 512 * (n.val / 8 / 4) + (128 * (n.val / 8 % 4) + b.val); omega)
  case hW => exact ld3 _ _ _ _ 0 a l ⟨n.val / 8, by omega⟩ a l rfl (Nat.zero_add _).symm (Nat.zero_add _).symm
  case hB => exact (ld3 _ _ _ _ 0 a b ⟨n.val / 8, by omega⟩ a b rfl (Nat.zero_add _).symm (Nat.zero_add _).symm).trans (hbs _ _ _)
  case hV =>
    refine vnG_at x0 x1 _ ⟨n.val / 8, by omega⟩ _ _ _ b (fun j => x2 (ix2 0 j)) (fun j => x3 (ix2 0 j)) _ J hJ (ld2 _ _ _ _ 0 b 0 J rfl hJ) (ld2 _ _ _ _ 0 b 0 J rfl hJ) ?_
    have e2 : (⟨128 * (n.val % 8) + l.val, h⟩ : Fin 1024) = chunkRow R l := Fin.ext (hl l).symm
    show _ = fun j => ∑ k, hn (fun i => x0 (ix2 (⟨128 * (n.val % 8) + l.val, h⟩ : Fin 1024) i)) _ k * _
    rw [e2]
    funext j
    exact Finset.sum_congr rfl fun k _ => congrArg _ (ld2 _ _ _ _ k j k (vCol j) (Nat.zero_add _).symm rfl).symm

theorem y_pieces_at (c : Dev nD) (arg1 : Memref sig .tc .vmem S1024x1024 .f32) (harg1 : arg1.IsWhole) (arg2 : Memref sig .tc .vmem S1x1024 .f32) (harg2 : arg2.IsWhole) (arg4 : Memref sig .tc .vmem S1x2048 .f32) (harg4 : arg4.IsWhole) (arg5 : Memref sig .tc .vmem S1x2048 .f32) (harg5 : arg5.IsWhole) (arg11 : Memref sig .tc .vmem S1024x6144 .bf16) (harg11 : arg11.IsWhole) (arg13 : Memref sig .tc .vmem S16x128x128 .bf16) (harg13 : arg13.IsWhole) (arg14 : Memref sig .tc .vmem S16x128x128 .f32) (harg14 : arg14.IsWhole)
    (x0 : Vec Ideal S1024x1024 .f32) (x1 : Vec Ideal S1x1024 .f32) (x2 : Vec Ideal S1x2048 .f32) (x3 : Vec Ideal S1x2048 .f32) (xs1 : Vec Ideal S1024x6144 .bf16) (xs3 : Vec Ideal S16x128x128 .bf16) (xs4 : Vec Ideal S16x128x128 .f32) (BS : Fin 16 → Fin 128 → EReal) (hbs : ∀ g i j, xs4 (ix3 g i j) = BS g i) (n : ℕ) (h : n ≤ 128) :
    ∀ p ∈ yPieces c arg1 harg1 arg2 harg2 arg4 harg4 arg5 harg5 arg11 harg11 arg13 harg13 arg14 harg14 x0 x1 x2 x3 xs1 xs3 xs4 n h, ∀ i, p.2 i = (fun y : S1024x2048.Idx => yK (fun r k => x0 (ix2 r k)) (fun k => x1 (ix2 0 k)) (fun k j => xs1 (ix2 k j)) (fun j => x2 (ix2 0 j)) (fun j => x3 (ix2 0 j)) (fun g i l => xs3 (ix3 g i l)) BS (y 0) (y 1)) (p.1.emb i) := by
  induction n with
  | zero => intro p hp; simp [yPieces] at hp
  | succ n ih =>
    intro p hp i
    rcases List.mem_cons.mp hp with rfl | hp
    · exact y_piece_at c arg1 harg1 arg2 harg2 arg4 harg4 arg5 harg5 arg11 harg11 arg13 harg13 arg14 harg14 x0 x1 x2 x3 xs1 xs3 xs4 BS hbs ⟨n, h⟩ i
    · exact ih _ p hp i

/-! ## The output block -/

abbrev blk0 (c : Dev nD) (t : Fin cfg0.N) : Vec Ideal S1024x1024 .f32 := iblk m c 0 t
abbrev blk1 (c : Dev nD) (t : Fin cfg0.N) : Vec Ideal S1x1024 .f32 := iblk m c 1 t
abbrev blk2 (c : Dev nD) (t : Fin cfg0.N) : Vec Ideal S1x2048 .f32 := iblk m c 2 t
abbrev blk3 (c : Dev nD) (t : Fin cfg0.N) : Vec Ideal S1x2048 .f32 := iblk m c 3 t

/-- The stores of a point's gated activations. -/
def yList (c : Dev nD) (t : Fin cfg0.N) : List (View.Piece (Elt Ideal) S1024x2048 .bf16) :=
  yPieces c (ms0_0 t) (hs0_0 t) (ms0_1 t) (hs0_1 t) (ms0_2 t) (hs0_2 t) (ms0_3 t) (hs0_3 t) scM0_1 (Memref.isWhole_whole _) scM0_3 (Memref.isWhole_whole _) scM0_4 (Memref.isWhole_whole _)
    (blk0 m c t) (blk1 m c t) (blk2 m c t) (blk3 m c t) (sc1 m c) (sc3 m c) (sc4 m c) 128 le_rfl
theorem y_cover (c : Dev nD) (t : Fin cfg0.N) : ∀ y, ∃ p ∈ yList m c t, y ∈ p.1.set := View.cover_of_tiledL _ S128x128.size (by sl_kernel_rfl)

/-- The block in terms of the rows. -/
theorem outBlk_at (c : Dev nD) (t : Fin cfg0.N) (BS : Fin 16 → Fin 128 → EReal) (hbs : ∀ g i j, sc4 m c (ix3 g i j) = BS g i) (r n : Fin 1024) :
    outBlk m c t (ix2 r n) = blk0 m c t (ix2 r n) + ∑ j : Fin 2048, yK (fun r k => blk0 m c t (ix2 r k)) (fun k => blk1 m c t (ix2 0 k)) (fun k j => sc1 m c (ix2 k j)) (fun j => blk2 m c t (ix2 0 j)) (fun j => blk3 m c t (ix2 0 j)) (fun g i l => sc3 m c (ix3 g i l)) BS r j * sc2 m c (ix2 j n) := by
  have h1 : (computeAt m c t).val = [⟨Rect.unit (s := S1024x1024) ![0, 0] S1024x1024.size inb_S1024x1024_S1024x1024_0_0, k0_pay1 (k0_pay120 (View.readAt (Elt Ideal) (ms0_0 t).view (Rect.unit (s := S1024x1024) ![0, 0] S1024x1024.size inb_S1024x1024_S1024x1024_0_0).toLoadRect ((hs0_0 t).unread (blk0 m c t))))
      ((scM0_0 : Memref sig .tc .vmem S1024x2048 .bf16).view.readCov (yList m c t) (Rect.unit (s := S1024x2048) ![0, 0] S1024x2048.size inb_S1024x2048_S1024x2048_0_0).toLoadRect)
      (View.readAt (Elt Ideal) (scM0_2 : Memref sig .tc .vmem S2048x1024 .bf16).view (Rect.unit (s := S2048x1024) ![0, 0] S2048x1024.size inb_S2048x1024_S2048x1024_0_0).toLoadRect ((Memref.isWhole_whole _ : (scM0_2 : Memref sig .tc .vmem S2048x1024 .bf16).IsWhole).unread (sc2 m c)))⟩] := rfl
  have h0 : k0_pay120 (blk0 m c t) = blk0 m c t := shapeCast_id _ _
  unfold outBlk
  rw [h1, View.canon_unit_zero (by funext a; fin_cases a <;> rfl), ld_whole, ld_whole, h0, View.readCov_eq_canon']
  pointwise [k0_pay1]
  refine congrArg _ (Finset.sum_congr rfl fun j _ => congrArg (· * _) ?_)
  have e := View.canon_apply_of_pieces (fun y : S1024x2048.Idx => yK (fun r k => blk0 m c t (ix2 r k)) (fun k => blk1 m c t (ix2 0 k)) (fun k j => sc1 m c (ix2 k j)) (fun j => blk2 m c t (ix2 0 j)) (fun j => blk3 m c t (ix2 0 j)) (fun g i l => sc3 m c (ix3 g i l)) BS (y 0) (y 1)) _ (y_pieces_at c (ms0_0 t) (hs0_0 t) (ms0_1 t) (hs0_1 t) (ms0_2 t) (hs0_2 t) (ms0_3 t) (hs0_3 t) scM0_1 (Memref.isWhole_whole _) scM0_3 (Memref.isWhole_whole _) scM0_4 (Memref.isWhole_whole _)
    (blk0 m c t) (blk1 m c t) (blk2 m c t) (blk3 m c t) (sc1 m c) (sc3 m c) (sc4 m c) BS hbs 128 le_rfl) (ix2 r j) (y_cover m c t _)
  refine Eq.trans (congrArg (View.canon (yList m c t)) ?_) e
  funext a
  match a with
  | 0 => exact Fin.ext (by rfl)
  | 1 => exact Fin.ext (by rfl)

end Cert.KernelIdeal.Hand

end
-- ==== Proof.KValue.lean ====
/- The kernel's result array, element by element, over its arguments. -/
module

public import proofs.«01_k».proof.Proof.LValue
public import proofs.«01_k».proof.Proof.YValue
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise Cert.Rows
variable (m : (ℓ : Loc nD τ sig) → Buf (Elt Ideal) ℓ)

/-! ## The arguments by row -/

/-- Row `R` of the 16384 activations, -/
def X (c : Dev nD) (R : Fin 16384) (k : Fin 1024) : EReal := (m ((c.tc : Thread nD τ).loc main_arg0) : FVec Ideal S4x4096x1024 .f32) (ix3 ⟨R.val / 4096, by omega⟩ ⟨R.val % 4096, by omega⟩ k)
/-- the norm's gains, the input projection, the channel norm's gains and biases, the chunk weights and their biases, the output projection. -/
def NG (c : Dev nD) (k : Fin 1024) : EReal := (m ((c.tc : Thread nD τ).loc main_arg1) : FVec Ideal S1x1024 .f32) (ix2 0 k)
def WI (c : Dev nD) (k : Fin 1024) (j : Fin 6144) : EReal := (m ((c.tc : Thread nD τ).loc main_arg2) : FVec Ideal S1x1024x6144 .f32) (ix3 0 k j)
def LG (c : Dev nD) (j : Fin 2048) : EReal := (m ((c.tc : Thread nD τ).loc main_arg3) : FVec Ideal S1x2048 .f32) (ix2 0 j)
def LB (c : Dev nD) (j : Fin 2048) : EReal := (m ((c.tc : Thread nD τ).loc main_arg4) : FVec Ideal S1x2048 .f32) (ix2 0 j)
def WS (c : Dev nD) (g : Fin 16) (i l : Fin 128) : EReal := (m ((c.tc : Thread nD τ).loc main_arg5) : FVec Ideal S1x16x128x128 .f32) (ix4 0 g i l)
def BS (c : Dev nD) (g : Fin 16) (i : Fin 128) : EReal := (m ((c.tc : Thread nD τ).loc main_arg6) : FVec Ideal S1x16x128 .f32) (ix3 0 g i)
def WO (c : Dev nD) (j : Fin 2048) (n : Fin 1024) : EReal := (m ((c.tc : Thread nD τ).loc main_arg7) : FVec Ideal S1x2048x1024 .f32) (ix3 0 j n)

theorem idx : ∀ t : Fin cfg0.N, win0_0.index t = ![t.val, 0] ∧ win0_1.index t = ![0, 0] ∧ win0_2.index t = ![0, 0] ∧ win0_3.index t = ![0, 0] ∧ win0_4.index t = ![0, 0, 0] ∧ win0_5.index t = ![0, 0] ∧ win0_6.index t = ![t.val, 0] :=
  (by decide +kernel : ∀ t : Fin grid0.N, _)

theorem blk0_at (c : Dev nD) (t : Fin cfg0.N) (r k : Fin 1024) (R : Fin 16384) (hR : R.val = 1024 * t.val + r.val) : blk0 m c t (ix2 r k) = X m c R k := by
  unfold X
  blk_simp [iblk]
  entry_read
  pointwise
  blk_ext [idx t]
theorem blk1_at (c : Dev nD) (t : Fin cfg0.N) (k : Fin 1024) : blk1 m c t (ix2 0 k) = NG m c k := by
  unfold NG
  blk_simp [iblk]
  entry_read
  pointwise
  blk_ext [idx t]
theorem blk2_at (c : Dev nD) (t : Fin cfg0.N) (j : Fin 2048) : blk2 m c t (ix2 0 j) = LG m c j := by
  unfold LG
  blk_simp [iblk]
  entry_read
  pointwise
  blk_ext [idx t]
theorem blk3_at (c : Dev nD) (t : Fin cfg0.N) (j : Fin 2048) : blk3 m c t (ix2 0 j) = LB m c j := by
  unfold LB
  blk_simp [iblk]
  entry_read
  pointwise
  blk_ext [idx t]
theorem iblk4_at (c : Dev nD) (t : Fin cfg0.N) (g : Fin 16) (i l : Fin 128) : (iblk m c 4 t : Vec Ideal S16x128x128 .f32) (ix3 g i l) = WS m c g i l := by
  unfold WS
  blk_simp [iblk]
  entry_read
  pointwise
  blk_ext [idx t]
theorem blk4_at (c : Dev nD) (g : Fin 16) (i l : Fin 128) : blk4 m c (ix3 g i l) = WS m c g i l := iblk4_at m c t0 g i l
theorem iblk5_at (c : Dev nD) (t : Fin cfg0.N) (g : Fin 16) (i : Fin 128) : (iblk m c 5 t : Vec Ideal S16x128 .f32) (ix2 g i) = BS m c g i := by
  unfold BS
  blk_simp [iblk]
  entry_read
  pointwise
  blk_ext [idx t]
theorem blk5_at (c : Dev nD) (g : Fin 16) (i : Fin 128) : blk5 m c (ix2 g i) = BS m c g i := iblk5_at m c t0 g i
theorem v3_at (c : Dev nD) (k : Fin 1024) (j : Fin 6144) : V m c main_v3 (ix2 k j) = WI m c k j := by
  unfold WI
  entry_read
  pointwise
theorem v10_at (c : Dev nD) (j : Fin 2048) (n : Fin 1024) : V m c main_v10 (ix2 j n) = WO m c j n := by
  unfold WO
  entry_read
  pointwise

/-- The chunk weights below and on the diagonal. -/
def WM (c : Dev nD) (g : Fin 16) (i l : Fin 128) : EReal := if l.val ≤ i.val then WS m c g i l else 0
/-- Row `r` of block `t`. -/
def row (t : Fin 16) (r : Fin 1024) : Fin 16384 := ⟨1024 * t.val + r.val, by omega⟩
/-- The kernel's result at row `r` of block `t` and column `n`. -/
def outK (c : Dev nD) (t : Fin 16) (r n : Fin 1024) : EReal :=
  X m c (row t r) n + ∑ j, yK (fun r => X m c (row t r)) (NG m c) (WI m c) (LG m c) (LB m c) (WM m c) (BS m c) r j * WO m c j n

theorem outBlk_eq (c : Dev nD) (t : Fin cfg0.N) (T : Fin 16) (hT : T.val = t.val) (r n : Fin 1024) : outBlk m c t (ix2 r n) = outK m c T r n := by
  have e0 : (fun r k => blk0 m c t (ix2 r k)) = fun r => X m c (row T r) := by
    funext r k; exact blk0_at m c t r k (row T r) (by show 1024 * T.val + r.val = _; omega)
  have e1 : (fun k => blk1 m c t (ix2 0 k)) = NG m c := funext fun k => blk1_at m c t k
  have e2 : (fun j => blk2 m c t (ix2 0 j)) = LG m c := funext fun k => blk2_at m c t k
  have e3 : (fun j => blk3 m c t (ix2 0 j)) = LB m c := funext fun k => blk3_at m c t k
  have e4 : (fun k j => sc1 m c (ix2 k j)) = WI m c := by funext k j; exact (sc1_eq m c _).trans (v3_at m c k j)
  have e5 : (fun g i l => sc3 m c (ix3 g i l)) = WM m c := by funext g i l; rw [sc3_eq, blk4_at]; rfl
  refine (outBlk_at m c t (BS m c) (fun g i j => (sc4_eq m c g i j).trans (blk5_at m c g i)) r n).trans ?_
  rw [e1, e2, e3, e4, e5, e0]
  unfold outK
  refine congrArg₂ (· + ·) (congrFun (congrFun e0 r) n) (Finset.sum_congr rfl fun j _ => congrArg _ ?_)
  exact (sc2_eq m c _).trans (v10_at m c j n)

/-- The result array after the run. -/
theorem final (c : Dev nD) : (dats m 0 c).arrAt 6 cfg0.N = fun y : S16384x1024.Idx => outK m c ⟨(y 0).val / 1024, by have h : (y 0).val < 16384 := (y 0).isLt; omega⟩ ⟨(y 0).val % 1024, by omega⟩ (y 1) := by
  refine (dats m 0 c).arrAt_eq_of_covers 6 _ (by decide +kernel) fun t _ y => ?_
  blk_simp
  rw [after0_6]
  have ht : t.val < 16 := (N_0 ▸ t.isLt : t.val < 16)
  have h0 : (y 0).val < 1024 := (y 0).isLt
  have e := outBlk_eq m c t ⟨t.val, ht⟩ rfl (y 0) (y 1)
  rw [ix2_eta] at e
  refine e.trans ?_
  have i0 : win0_6.index t 0 = t.val := by rw [(idx t).2.2.2.2.2.2]; rfl
  have e1 : (⟨t.val, ht⟩ : Fin 16) = ⟨(win0_6.index t 0 * 1024 + (y 0).val) / 1024, by omega⟩ := Fin.ext (by show t.val = (win0_6.index t 0 * 1024 + (y 0).val) / 1024; omega)
  have e2 : (y 0 : Fin 1024) = ⟨(win0_6.index t 0 * 1024 + (y 0).val) % 1024, by omega⟩ := Fin.ext (by show (y 0).val = (win0_6.index t 0 * 1024 + (y 0).val) % 1024; omega)
  have i1 : win0_6.index t 1 = 0 := by rw [(idx t).2.2.2.2.2.2]; rfl
  have e3 : (y 1 : Fin 1024) = (win0_6.blk t).view.emb y 1 := by
    refine Fin.ext ?_
    blk_simp
    omega
  exact (congrArg₂ (fun a b => outK m c a b (y 1)) e1 e2).trans (congrArg _ e3)

end Cert.KernelIdeal.Hand

end
-- ==== Proof.RValue.lean ====
/- The reference's result, element by element, over its arguments. -/
module

public import proofs.«01_k».proof.Proof.Gen.ReferenceIdeal.Run
public import proofs.«01_k».proof.Proof.Rows
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.Pointwise Cert.Rows

variable (A0 : FVec Ideal S4x4096x1024 .f32) (A1 : FVec Ideal S1x1024 .f32) (A2 : FVec Ideal S1x1024x6144 .f32) (A3 A4 : FVec Ideal S1x2048 .f32)
  (A5 : FVec Ideal S1x16x128x128 .f32) (A6 : FVec Ideal S1x16x128 .f32) (A7 : FVec Ideal S1x2048x1024 .f32)

/-! ## The stages of the composed term: the normed rows, the projection, the centred and the normed channels, the mixed ones, the result -/

def rHN : FVec Ideal S4x4096x1024 .f32 :=
  mulf (mulf A0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf A0 A0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ A1 shapeCasts_S1x1024_S1024)))
def rPR : FVec Ideal S4x4096x6144 .f32 :=
  Host.dotGeneral dot_S4x4096x1024_S1024x6144_S4x4096x6144_2_0_01_1_n_n none (rHN A0 A1) (shapeCast S1024x6144 A2 shapeCasts_S1x1024x6144_S1024x6144 : FVec Ideal S1024x6144 .f32)
def rCen (v : FVec Ideal S4x4096x2048 .f32) : FVec Ideal S4x4096x2048 .f32 :=
  subf v (broadcastInDim S4x4096x2048 ![0, 1, 2] bcast_S4x4096x1_S4x4096x2048_0_1_2 (Host.divf (broadcastInDim S4x4096x1 ![0, 1] bcast_S4x4096_S4x4096x1_0_1 (Host.reduceAdd v (constant S_ .f32 0x00000000#32) reducesTo_S4x4096x2048_S4x4096_d2 h_S_)) (broadcastInDim S4x4096x1 ![] bcast_S_S4x4096x1 (constant S_ .f32 0x45000000#32))))
def rVN (c : FVec Ideal S4x4096x2048 .f32) : FVec Ideal S4x4096x2048 .f32 :=
  addf (mulf (mulf c (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf c c) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 (shapeCast _ A3 shapeCasts_S1x2048_S2048)))) (broadcastInDim S4x4096x2048 ![0, 1, 2] bcast_S1x1x2048_S4x4096x2048_0_1_2 (broadcastInDim S1x1x2048 ![2] bcast_S2048_S1x1x2048_2 (shapeCast _ A4 shapeCasts_S1x2048_S2048)))
def rWM : FVec Ideal S16x128x128 .f32 :=
  select (broadcastInDim S16x128x128 ![0, 1, 2] bcast_S1x128x128_S16x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ A5 shapeCasts_S1x16x128x128_S16x128x128) (broadcastInDim S16x128x128 ![] bcast_S_S16x128x128 (constant S_ .f32 0x00000000#32))
def rDot (vn : FVec Ideal S4x4096x2048 .f32) (wm : FVec Ideal S16x128x128 .f32) : FVec Ideal S16x4x32x128x128 .f32 :=
  Host.dotGeneral dot_S4x32x128x16x128_S16x128x128_S16x4x32x128x128_2_2_014_1_3_0 none (shapeCast S4x32x128x16x128 vn shapeCasts_S4x4096x2048_S4x32x128x16x128 : FVec Ideal S4x32x128x16x128 .f32) wm
def rMix (d : FVec Ideal S16x4x32x128x128 .f32) : FVec Ideal S4x4096x2048 .f32 :=
  shapeCast _ (addf (transpose S4x32x128x16x128 [1, 2, 4, 0, 3] d transposes_S16x4x32x128x128_S4x32x128x16x128_1_2_4_0_3) (broadcastInDim S4x32x128x16x128 ![0, 1, 2, 3, 4] bcast_S1x1x128x16x1_S4x32x128x16x128_0_1_2_3_4 (broadcastInDim S1x1x128x16x1 ![2, 3, 4] bcast_S128x16x1_S1x1x128x16x1_2_3_4 (broadcastInDim S128x16x1 ![0, 1] bcast_S128x16_S128x16x1_0_1 (transpose S128x16 [1, 0] (shapeCast _ A6 shapeCasts_S1x16x128_S16x128) transposes_S16x128_S128x16_1_0))))) shapeCasts_S4x32x128x16x128_S4x4096x2048
def rSilu (g : FVec Ideal S4x4096x2048 .f32) : FVec Ideal S4x4096x2048 .f32 :=
  mulf g (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf g))))
def rMixed : FVec Ideal S4x4096x2048 .f32 :=
  rMix A6 (rDot (rVN A3 A4 (rCen (extractStridedSlice S4x4096x2048 ![0, 0, 2048] (rPR A0 A1 A2) slices_S4x4096x6144_S4x4096x2048_0_0_2048))) (rWM A5))
def rOut : FVec Ideal S16384x1024 .f32 :=
  shapeCast _ (addf A0 (Host.dotGeneral dot_S4x4096x2048_S2048x1024_S4x4096x1024_2_0_01_1_n_n none (mulf (mulf (extractStridedSlice S4x4096x2048 ![0, 0, 0] (rPR A0 A1 A2) slices_S4x4096x6144_S4x4096x2048_0_0_0) (rMixed A0 A1 A2 A3 A4 A5 A6)) (rSilu (extractStridedSlice S4x4096x2048 ![0, 0, 4096] (rPR A0 A1 A2) slices_S4x4096x6144_S4x4096x2048_0_0_4096))) (shapeCast S2048x1024 A7 shapeCasts_S1x2048x1024_S2048x1024 : FVec Ideal S2048x1024 .f32))) shapeCasts_S4x4096x1024_S16384x1024

/-- The run's result is the composed stages. -/
theorem res_eq (m : (ℓ : Loc nD τ sig) → Buf (Elt Ideal) ℓ) (c : Dev nD) :
    Value.res_out0 m c = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-! ## The stages at an index -/

theorem rHN_at (B : Fin 4) (s : Fin 4096) (k : Fin 1024) : rHN A0 A1 (ix3 B s k) = hn (fun a => A0 (ix3 B s a)) (fun a => A1 (ix2 0 a)) k := by
  pointwise [rHN]
  rfl
theorem rPR_at (B : Fin 4) (s : Fin 4096) (j : Fin 6144) : rPR A0 A1 A2 (ix3 B s j) = proj (fun a => A0 (ix3 B s a)) (fun a => A1 (ix2 0 a)) (fun k j => A2 (ix3 0 k j)) j := by
  pointwise [rPR]
  simp only [rHN_at]
  rfl
theorem rCen_at (v : FVec Ideal S4x4096x2048 .f32) (B : Fin 4) (s : Fin 4096) (j : Fin 2048) : rCen v (ix3 B s j) = v (ix3 B s j) - mean (fun i => v (ix3 B s i)) := by
  pointwise [rCen]
  rfl
theorem rVN_at (v : FVec Ideal S4x4096x2048 .f32) (B : Fin 4) (s : Fin 4096) (j : Fin 2048) :
    rVN A3 A4 (rCen v) (ix3 B s j) = normR (fun i => v (ix3 B s i)) (fun i => A3 (ix2 0 i)) (fun i => A4 (ix2 0 i)) j := by
  pointwise [rVN]
  simp only [rCen_at]
  rfl
theorem rWM_at (g : Fin 16) (i l : Fin 128) : rWM A5 (ix3 g i l) = if l.val ≤ i.val then A5 (ix4 0 g i l) else 0 := by
  pointwise [rWM]
  rw [show IntOp.addi (BitVec.ofNat 32 i.val) 0#32 = BitVec.ofNat 32 i.val from BitVec.add_zero _]
  rw [show IntOp.cmpi CmpIPredicate.sge (BitVec.ofNat 32 i.val) (BitVec.ofNat 32 l.val) = IntOp.cmpi CmpIPredicate.sle (BitVec.ofNat 32 l.val) (BitVec.ofNat 32 i.val) from rfl,
    Idealize.ShloMosaic.WordCmp.cmpi_sle_ofNat (by omega) (by omega)]
  by_cases h : l.val ≤ i.val <;> simp [h, Scalar.select]
theorem rDot_at (vn : FVec Ideal S4x4096x2048 .f32) (wm : FVec Ideal S16x128x128 .f32) (g : Fin 16) (B : Fin 4) (n : Fin 32) (d i : Fin 128) :
    rDot vn wm (ix5 g B n d i) = ∑ l : Fin 128, vn (ix3 B ⟨128 * n.val + l.val, by omega⟩ ⟨128 * g.val + d.val, by omega⟩) * wm (ix3 g i l) := by
  pointwise [rDot]
  refine Finset.sum_congr rfl fun l _ => congrArg (· * _) (congrArg vn ?_)
  exact congrArg₂ (ix3 B) (Fin.ext (by show n.val * 128 + l.val = 128 * n.val + l.val; omega)) (Fin.ext (by show g.val * 128 + d.val = 128 * g.val + d.val; omega))
theorem rMix_at (d : FVec Ideal S16x4x32x128x128 .f32) (B : Fin 4) (s : Fin 4096) (j : Fin 2048) :
    rMix A6 d (ix3 B s j) = d (ix5 (grp j) B ⟨s.val / 128, by omega⟩ ⟨j.val % 128, by omega⟩ ⟨s.val % 128, by omega⟩) + A6 (ix3 0 (grp j) ⟨s.val % 128, by omega⟩) := by
  pointwise [rMix]
  rfl
theorem rSilu_at (g : FVec Ideal S4x4096x2048 .f32) (y : S4x4096x2048.Idx) : rSilu g y = gateR (g y) := by
  pointwise [rSilu]
  rfl

/-- Row `R` of the 16384 activations. -/
def rX (R : Fin 16384) (k : Fin 1024) : EReal := A0 (ix3 ⟨R.val / 4096, by omega⟩ ⟨R.val % 4096, by omega⟩ k)

/-- The mixed channels of row `R`: its chunk's normed channels weighted by the group's weights on and below the diagonal, and the bias. -/
theorem rMixed_at (R : Fin 16384) (j : Fin 2048) :
    rMixed A0 A1 A2 A3 A4 A5 A6 (ix3 ⟨R.val / 4096, by omega⟩ ⟨R.val % 4096, by omega⟩ j)
      = ∑ l, normR (fun i => proj (rX A0 (chunkOf R l)) (fun a => A1 (ix2 0 a)) (fun k j => A2 (ix3 0 k j)) (vCol i)) (fun i => A3 (ix2 0 i)) (fun i => A4 (ix2 0 i)) j
          * (if l.val ≤ (placeIn R).val then A5 (ix4 0 (grp j) (placeIn R) l) else 0) + A6 (ix3 0 (grp j) (placeIn R)) := by
  have hp : (⟨R.val % 4096 % 128, by omega⟩ : Fin 128) = placeIn R := Fin.ext (by show R.val % 4096 % 128 = R.val % 128; omega)
  unfold rMixed
  refine (rMix_at A6 _ _ _ _).trans ?_
  dsimp only
  rw [hp, rDot_at]
  refine congrArg (· + _) (Finset.sum_congr rfl fun l _ => congrArg₂ (· * ·) ?_ (rWM_at _ _ _ _))
  have hj : (⟨128 * (grp j).val + j.val % 128, by omega⟩ : Fin 2048) = j := Fin.ext (by show 128 * (j.val / 128) + j.val % 128 = j.val; omega)
  dsimp only
  rw [hj]
  refine (rVN_at A3 A4 _ _ _ _).trans ?_
  refine congrArg (fun v => normR v _ _ j) (funext fun i => ?_)
  have hx : (fun a => A0 (ix3 (⟨R.val / 4096, by omega⟩ : Fin 4) (⟨128 * (R.val % 4096 / 128) + l.val, by omega⟩ : Fin 4096) a)) = rX A0 (chunkOf R l) := by
    funext a
    exact congrArg A0 (congrArg₂ (fun p q => ix3 p q a) (Fin.ext (by show R.val / 4096 = (128 * (R.val / 128) + l.val) / 4096; omega)) (Fin.ext (by show 128 * (R.val % 4096 / 128) + l.val = (128 * (R.val / 128) + l.val) % 4096; omega)))
  rw [← hx]
  pointwise
  exact rPR_at A0 A1 A2 _ _ _

/-- The result at row `R` and column `n`. -/
theorem rOut_at (R : Fin 16384) (n : Fin 1024) : rOut A0 A1 A2 A3 A4 A5 A6 A7 (ix2 R n)
    = rX A0 R n + ∑ j, yR (rX A0) (fun a => A1 (ix2 0 a)) (fun k j => A2 (ix3 0 k j)) (fun i => A3 (ix2 0 i)) (fun i => A4 (ix2 0 i)) (fun g i l => if l.val ≤ i.val then A5 (ix4 0 g i l) else 0)
        (fun g i => A6 (ix3 0 g i)) R j * A7 (ix3 0 j n) := by
  pointwise [rOut]
  refine congrArg _ (Finset.sum_congr rfl fun j _ => congrArg (· * _) (congrArg₂ (· * ·) (congrArg₂ (· * ·) ?_ ?_) ?_))
  · exact rPR_at A0 A1 A2 _ _ _
  · exact rMixed_at A0 A1 A2 A3 A4 A5 A6 R j
  · refine (rSilu_at _ _).trans (congrArg gateR ?_)
    pointwise
    exact rPR_at A0 A1 A2 _ _ _

end Cert.ReferenceIdeal.Hand

end
-- ==== Proof.Equal.lean ====
/- The kernel's formulas and the reference's are the same: the gate everywhere, the channel norm on real channels. -/
module

public import proofs.«01_k».proof.Proof.Rows

@[expose] public section

noncomputable section

namespace Cert.Rows

open Idealize.ShloMosaic

/-! ## The constants -/

theorem c1024_eq : c1024 = ((1024 : ℝ) : EReal) := by
  simp [c1024, Ideal.ofBits, Ideal.ieee, -EReal.coe_mul]; norm_num
theorem c2048_eq : c2048 = ((2048 : ℝ) : EReal) := by
  simp [c2048, Ideal.ofBits, Ideal.ieee, -EReal.coe_mul]; norm_num
theorem c128_eq : c128 = ((128 : ℝ) : EReal) := by
  simp [c128, Ideal.ofBits, Ideal.ieee, -EReal.coe_mul]; norm_num
theorem half_eq : half = ((1 / 2 : ℝ) : EReal) := by
  simp [half, Ideal.ofBits, Ideal.ieee, -EReal.coe_mul]; norm_num
theorem eps_pos : ∃ e : ℝ, 0 < e ∧ eps = (e : EReal) := by
  refine ⟨10995116 * (1 / 1099511627776), by norm_num, ?_⟩
  simp [eps, Ideal.ofBits, Ideal.ieee, -EReal.coe_mul]; norm_num

/-! ## The gate -/

theorem gate_real (z : ℝ) : 1 / 2 * z * (1 + Real.tanh (1 / 2 * z)) = z * (1 * (1 + Real.exp (-z))⁻¹) := by
  have h1 : Real.exp (-z) = Real.exp (-(1 / 2 * z)) * Real.exp (-(1 / 2 * z)) := by rw [← Real.exp_add]; congr 1; ring
  have h2 : Real.exp (1 / 2 * z) * Real.exp (-(1 / 2 * z)) = 1 := by rw [← Real.exp_add]; simp
  rw [Real.tanh_eq_sinh_div_cosh, Real.sinh_eq, Real.cosh_eq, h1]
  have p1 := Real.exp_pos (1 / 2 * z)
  have p2 := Real.exp_pos (-(1 / 2 * z))
  generalize Real.exp (1 / 2 * z) = a at *
  generalize Real.exp (-(1 / 2 * z)) = b at *
  have h3 : 1 + b * b ≠ 0 := by positivity
  have h4 : a + b ≠ 0 := by positivity
  field_simp
  linear_combination (2 * z * b) * h2

theorem div_coe (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

/-- Half of `z` times one more than the hyperbolic tangent of half of `z` is `z` times the logistic function, at the infinities too. -/
theorem gate_eq (z : EReal) : gateK z = gateR z := by
  unfold gateK gateR
  rw [half_eq]
  induction z with
  | bot =>
    rw [EReal.coe_mul_bot_of_pos (by norm_num)]
    have t : Ideal.tanh ⊥ = -1 := rfl
    have e : Ideal.exp ⊤ = ⊤ := rfl
    have h0 : (1 : EReal) + -1 = 0 := by
      show ((1 : ℝ) : EReal) + ((-1 : ℝ) : EReal) = 0
      rw [← EReal.coe_add]; norm_num
    have h1 : (1 : EReal) + ⊤ = ⊤ := EReal.coe_add_top 1
    rw [EReal.neg_bot, t, e, h0, h1]
    unfold Ideal.div
    rw [if_neg EReal.top_ne_zero, EReal.inv_top, mul_zero, mul_zero, mul_zero]
  | top =>
    rw [EReal.coe_mul_top_of_pos (by norm_num)]
    have t : Ideal.tanh ⊤ = 1 := rfl
    have e : Ideal.exp ⊥ = 0 := rfl
    rw [EReal.neg_top, t, e, add_zero, EReal.top_mul_of_pos (by norm_num)]
    unfold Ideal.div
    rw [if_neg one_ne_zero, inv_one, mul_one, mul_one]
  | coe z =>
    have h : (1 : EReal) = ((1 : ℝ) : EReal) := rfl
    rw [h, ← EReal.coe_mul, ← EReal.coe_neg]
    show (_ : EReal) * (_ + ((Real.tanh (1 / 2 * z) : ℝ) : EReal)) = _ * Ideal.div _ (_ + ((Real.exp (-z) : ℝ) : EReal))
    rw [← EReal.coe_add, ← EReal.coe_add, div_coe _ _ (by have := Real.exp_pos (-z); positivity), ← EReal.coe_mul, ← EReal.coe_mul, gate_real]

/-! ## Real rows -/

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A real row's norm is real, -/
theorem hn_real (x g : Fin 1024 → EReal) (hx : ∀ k, ∃ r : ℝ, x k = r) (hg : ∀ k, ∃ r : ℝ, g k = r) (k : Fin 1024) : ∃ r : ℝ, hn x g k = r := by
  choose x' hx using hx
  choose g' hg using hg
  obtain ⟨e, he, hE⟩ := eps_pos
  obtain rfl : x = fun k => (x' k : EReal) := funext hx
  unfold hn
  simp only [hg, hE, c1024_eq, ← EReal.coe_mul, coe_sum]
  rw [div_coe _ _ (by norm_num), ← EReal.coe_add, rsqrt_pos _ (by have := Finset.sum_nonneg (fun i (_ : i ∈ Finset.univ) => mul_self_nonneg (x' i)); positivity), ← EReal.coe_mul, ← EReal.coe_mul]
  exact ⟨_, rfl⟩

/-- A row with an infinite entry has an infinite mean square and is normed to zero. -/
theorem hn_zero (x g : Fin 1024 → EReal) (a : Fin 1024) (ha : x a * x a = ⊤) (k : Fin 1024) : hn x g k = 0 := by
  have h0 : ∀ i, 0 ≤ x i * x i := fun i => by
    rcases le_total 0 (x i) with h | h
    · exact mul_nonneg h h
    · have := mul_nonneg (EReal.neg_nonneg.2 h) (EReal.neg_nonneg.2 h)
      rwa [neg_mul_neg] at this
  have hs : (∑ i, x i * x i) = ⊤ := top_le_iff.1 (ha ▸ Finset.single_le_sum (f := fun i => x i * x i) (fun i _ => h0 i) (Finset.mem_univ a))
  obtain ⟨e, he, hee⟩ := eps_pos
  unfold hn
  rw [hs, c1024_eq, hee]
  have h1 : Ideal.div ⊤ ((1024 : ℝ) : EReal) = ⊤ := by
    unfold Ideal.div
    rw [if_neg (by norm_num), ← EReal.coe_inv, EReal.top_mul_coe_of_pos (by norm_num)]
  rw [h1, EReal.top_add_coe]
  show x k * 0 * g k = 0
  rw [mul_zero, zero_mul]
/-- so with real gains any row's norm is real, -/
theorem hn_real' (x g : Fin 1024 → EReal) (hg : ∀ k, ∃ r : ℝ, g k = r) (k : Fin 1024) : ∃ r : ℝ, hn x g k = r := by
  by_cases h : ∃ a, x a * x a = ⊤
  · obtain ⟨a, ha⟩ := h
    exact ⟨0, hn_zero x g a ha k⟩
  · refine hn_real x g (fun i => ?_) hg k
    have hi : x i * x i ≠ ⊤ := fun e => h ⟨i, e⟩
    induction hx : x i with
    | bot => exact absurd (by rw [hx]; rfl) hi
    | top => exact absurd (by rw [hx]; rfl) hi
    | coe r => exact ⟨r, rfl⟩

/-- and so is its projection on a real column. -/
theorem proj_real (x g : Fin 1024 → EReal) (W : Fin 1024 → Fin 6144 → EReal) (j : Fin 6144) (hg : ∀ k, ∃ r : ℝ, g k = r)
    (hW : ∀ k, ∃ r : ℝ, W k j = r) : ∃ r : ℝ, proj x g W j = r := by
  choose h hh using hn_real' x g hg
  choose w hw using hW
  unfold proj
  simp only [hh, hw, ← EReal.coe_mul, coe_sum]
  exact ⟨_, rfl⟩

theorem mean_coe (d : Fin 2048 → ℝ) : mean (fun j => (d j : EReal)) = (((∑ j, d j) * (2048 : ℝ)⁻¹ : ℝ) : EReal) := by
  unfold mean
  rw [coe_sum, c2048_eq, div_coe _ _ (by norm_num)]

/-- The mean square less the squared mean of shifted numbers is the mean square of the centred ones. -/
theorem var_real (v : Fin 2048 → ℝ) (s : ℝ) :
    (∑ j, (v j - s) * (v j - s)) * (2048 : ℝ)⁻¹ - (∑ j, (v j - s)) * (2048 : ℝ)⁻¹ * ((∑ j, (v j - s)) * (2048 : ℝ)⁻¹)
      = (∑ j, (v j - (∑ i, v i) * (2048 : ℝ)⁻¹) * (v j - (∑ i, v i) * (2048 : ℝ)⁻¹)) * (2048 : ℝ)⁻¹ := by
  have e : ∀ t : ℝ, ∑ j, (v j - t) * (v j - t) = ∑ j, v j * v j - 2 * t * ∑ j, v j + 2048 * (t * t) := fun t => by
    simp only [sub_mul, mul_sub, Finset.sum_sub_distrib, ← Finset.sum_mul, ← Finset.mul_sum, Finset.sum_const, Finset.card_univ, Fintype.card_fin, nsmul_eq_mul]
    push_cast
    ring
  rw [e, e, Finset.sum_sub_distrib]
  simp only [Finset.sum_const, Finset.card_univ, Fintype.card_fin, nsmul_eq_mul]
  push_cast
  ring

/-- On real channels the kernel's channel norm is the reference's. -/
theorem norm_eq (v lg lb : Fin 2048 → EReal) (hv : ∀ j, ∃ r : ℝ, v j = r) (j : Fin 2048) : normK v lg lb j = normR v lg lb j := by
  choose w hw using hv
  obtain rfl : v = fun j => (w j : EReal) := funext hw
  obtain ⟨s, hs⟩ : ∃ s : ℝ, shift (fun j => (w j : EReal)) = fun j => ((w j - s : ℝ) : EReal) := by
    refine ⟨(∑ a : Fin 128, w ⟨a.val, by omega⟩) * (128 : ℝ)⁻¹, funext fun j => ?_⟩
    unfold shift
    rw [coe_sum, c128_eq, div_coe _ _ (by norm_num), ← EReal.coe_sub]
  unfold normK normR
  rw [hs, mean_coe, mean_coe]
  simp only [← EReal.coe_mul, ← EReal.coe_sub]
  rw [mean_coe, mean_coe, ← EReal.coe_sub, var_real]
  have e : w j - s - (∑ i, (w i - s)) * (2048 : ℝ)⁻¹ = w j - (∑ i, w i) * (2048 : ℝ)⁻¹ := by
    rw [Finset.sum_sub_distrib]
    simp only [Finset.sum_const, Finset.card_univ, Fintype.card_fin, nsmul_eq_mul]
    push_cast
    ring
  rw [e]

end Cert.Rows

end
-- ==== Proof.Finite.lean ====
/- What the precondition says: the norm's gains and the mixed channels' projection columns are real numbers. -/
module

public import proofs.«01_k».proof.Defs
public import proofs.«01_k».proof.Proof.KValue
public import Idealize.ShloMosaic.Lib.ReduceAll

@[expose] public section

set_option maxRecDepth 16384

noncomputable section

namespace Cert.KernelIdeal.Hand

open Cert.KernelIdeal.Gen
open Idealize.ShloMosaic Idealize.ShloMosaic.TcCoe
open Idealize.ShloMosaic.Pointwise Cert.Rows

/-- The precondition's side conditions. -/
theorem preFacts : Cert.Pre_finite.Facts where
  h_S_ := by decide
  bcast_S_S1x1024 := by decide
  reducesTo_S1x1024_S_d0_1 := by decide
  slices_S1x1024x6144_S1x1024x2048_0_0_2048 := by decide
  bcast_S_S1x1024x2048 := by decide
  reducesTo_S1x1024x2048_S_d0_1_2 := by decide

theorem inf_eq : Ideal.ofBits .f32 0x7F800000#32 = ⊤ := by
  simp [Ideal.ofBits, Ideal.ieee]

/-- A number less than infinity in absolute value is real. -/
theorem real_of_abs {x : EReal} (h : FloatOps.cmpf (F := Ideal) (φ := .f32) .olt (max x (-x) : EReal) (Ideal.ofBits .f32 0x7F800000#32) = 1#1) : ∃ r : ℝ, x = r := by
  rw [inf_eq] at h
  induction x with
  | bot => simp [FloatOps.cmpf, Ideal.cmp] at h
  | top => simp [FloatOps.cmpf, Ideal.cmp] at h
  | coe r => exact ⟨r, rfl⟩

/-- An array all of whose elements pass the check is real everywhere. -/
theorem real_of_check {s : Shape} {axes : List (Fin s.rank)} {t u : Shape} [Subsingleton t.Idx] (x : FVec Ideal s .f32) (b : FVec Ideal s .f32) (hb : ∀ i, b i = Ideal.ofBits .f32 0x7F800000#32) (init : u.Idx → BitVec 1)
    (h : s.ReducesTo axes t) (hu : 0 < u.numel) (j : t.Idx) (e : Host.reduce IntOp.andi (cmpf .olt (Host.absf x) b) init h hu j = 1#1) (i : s.Idx) : ∃ r : ℝ, x i = r := by
  have h1 := Host.reduce_andi_all _ _ h hu j e i
  refine real_of_abs ?_
  rw [← hb i]
  exact h1

variable (m : (ℓ : Loc nD τ sig) → Buf (Elt Ideal) ℓ)

instance : Subsingleton (Cert.Pre_finite.S_ : Shape).Idx := ⟨fun a b => funext fun i => i.elim0⟩

theorem and_one {a b : BitVec 1} (h : a &&& b = 1#1) : a = 1#1 ∧ b = 1#1 := by
  revert h; revert a b; decide

/-- The precondition: every gain and every weight of a mixed channel's column is a real number. -/
theorem real_of_pre [hp : Cert.Pre_finite.Facts] (h : Cert.Pre_KernelIdeal_finite m) (c : Dev nD) :
    (∀ k, ∃ r : ℝ, NG m c k = r) ∧ ∀ k j, ∃ r : ℝ, WI m c k (vCol j) = r := by
  have e := congrFun (h c) (fun i => i.elim0)
  obtain ⟨e2, e3⟩ := and_one e
  refine ⟨fun k => real_of_check _ _ (fun i => rfl) _ _ _ _ e2 _, fun k j => ?_⟩
  obtain ⟨r, hr⟩ := real_of_check _ _ (fun i => rfl) _ _ _ _ e3 (ix3 0 k j)
  refine ⟨r, Eq.trans ?_ hr⟩
  unfold WI
  pointwise
  rfl

end Cert.KernelIdeal.Hand

end
-- ==== Proof.Final.lean ====
/- The kernel's result array is the reference's, and the two runs that say so. -/
module

public import proofs.«01_k».proof.Proof.KValue
public import proofs.«01_k».proof.Proof.RValue
public import proofs.«01_k».proof.Proof.Equal
public import proofs.«01_k».proof.Proof.Finite

@[expose] public section

set_option maxRecDepth 16384

noncomputable section

namespace Cert.Rows

/-- The kernel's gated activations at a row of a block are the reference's at that row of all the rows, when the channels mixed are real. -/
theorem yK_eq (X : Fin 16384 → Fin 1024 → EReal) (ng : Fin 1024 → EReal) (W : Fin 1024 → Fin 6144 → EReal) (lg lb : Fin 2048 → EReal)
    (wm : Fin 16 → Fin 128 → Fin 128 → EReal) (bs : Fin 16 → Fin 128 → EReal) (hg : ∀ k, ∃ r : ℝ, ng k = r)
    (hW : ∀ k j, ∃ r : ℝ, W k (vCol j) = r) (t : Fin 16) (f : Fin 1024 → Fin 16384) (hf : ∀ r, (f r).val = 1024 * t.val + r.val) (r : Fin 1024) (j : Fin 2048) :
    yK (fun r => X (f r)) ng W lg lb wm bs r j = yR X ng W lg lb wm bs (f r) j := by
  have hr := hf r
  have hp : inChunk r = placeIn (f r) := Fin.ext (by show r.val % 128 = (f r).val % 128; omega)
  have hc : ∀ l, f (chunkRow r l) = chunkOf (f r) l := fun l => Fin.ext (by
    rw [hf]; show 1024 * t.val + (128 * (r.val / 128) + l.val) = 128 * ((f r).val / 128) + l.val; omega)
  unfold yK yR
  rw [hp, gate_eq]
  refine congrArg (· * _) (congrArg (_ * ·) (congrArg (· + _) (Finset.sum_congr rfl fun l _ => ?_)))
  rw [mul_comm, norm_eq _ lg lb (fun i => proj_real _ ng W (vCol i) hg (fun k => hW k i))]
  dsimp only
  rw [hc]

end Cert.Rows

namespace Cert.KernelIdeal.Hand

open Cert.KernelIdeal.Gen
open Idealize.ShloMosaic Idealize.ShloMosaic.TcCoe
open Idealize.SL.Sem
open Idealize.ShloMosaic.Pointwise Cert.Rows

variable (m : (ℓ : Loc nD τ sig) → Buf (Elt Ideal) ℓ) (ρ : Dev nD → PrngReg)

/-- The kernel's run: the result array ends as the pipeline's blocks fill it, and the arguments unchanged. -/
theorem run_value : θ_run defs (onTc (τ := τ) (main (F := Ideal))) ⟨m, fun _ => 0, ρ⟩ (fun r => ∀ c : Dev nD,
      r.2.mem ((c.tc : Thread nD τ).loc main_v11) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r (h : Pipeline.FramePost cfgs (dats m) 0 (V m) r) c => ⟨(h c).1 6, ((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), ((h c).2 main_arg7 (Pipeline.mem_restRefs_of main_arg7 (by decide) (by decide))).trans (V_main_arg7 m c)⟩) (run_main m ρ)

/-- The result array is the reference's result of the same arguments, when the precondition holds. -/
theorem final_eq [hp : Cert.Pre_finite.Facts] (h : Cert.Pre_KernelIdeal_finite m) (c : Dev nD) :
    (dats m 0 c).arrAt 6 cfg0.N = Cert.ReferenceIdeal.Hand.rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨hG, hW⟩ := real_of_pre m h c
  rw [final]
  funext y
  have h0 : (y 0).val < 16384 := (y 0).isLt
  have hy : row ⟨(y 0).val / 1024, by omega⟩ ⟨(y 0).val % 1024, by omega⟩ = y 0 := Fin.ext (by show 1024 * ((y 0).val / 1024) + (y 0).val % 1024 = (y 0).val; omega)
  refine Eq.trans ?_ (congrArg _ (ix2_eta y))
  refine Eq.trans ?_ (Cert.ReferenceIdeal.Hand.rOut_at _ _ _ _ _ _ _ _ (y 0) (y 1)).symm
  unfold outK
  refine congrArg₂ (· + ·) (congrArg (X m c · (y 1)) hy) (Finset.sum_congr rfl fun j _ => congrArg (· * _) ?_)
  refine (yK_eq (X m c) _ _ _ _ _ _ hG hW ⟨(y 0).val / 1024, by omega⟩ (row ⟨(y 0).val / 1024, by omega⟩) (fun r => rfl) _ j).trans ?_
  exact congrArg (fun R => yR (X m c) (NG m c) (WI m c) (LG m c) (LB m c) (WM m c) (BS m c) R j) hy

end Cert.KernelIdeal.Hand

end
-- ==== Proof.SwaSetup.lean ====
/- The set-up of the attention kernel's run: the branch conditions in closed form over the grid, the buffers the pipeline hands to the
   body, the body's own transfer semaphores, and the launch's invariant, for any float values `F`. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The position of a grid point inside its sequence of sixteen, as the body computes it. -/
abbrev modWord (i : grid0.Coords) : BitVec 32 :=
  Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))
/-- The very first grid point. -/
abbrev condZ (i : grid0.Coords) : Prop := (Scalar.cmpi .ne (Scalar.extui (Scalar.cmpi .eq (BitVec.ofNat 32 (i 0).val) 0#32)) 0#32) = 1#1
/-- A sequence's first point. -/
abbrev condF (i : grid0.Coords) : Prop := (Scalar.cmpi .ne (Scalar.extui (Scalar.cmpi .eq (modWord i) 0#32)) 0#32) = 1#1
/-- Not a sequence's first point. -/
abbrev condN (i : grid0.Coords) : Prop := (Scalar.cmpi .ne (Scalar.extui (Scalar.xori (Scalar.cmpi .eq (modWord i) 0#32) 1#1)) 0#32) = 1#1
/-- An even point. -/
abbrev condE (i : grid0.Coords) : Prop := k0_cond2 i = 1#1
/-- An odd point. -/
abbrev condO (i : grid0.Coords) : Prop := k0_cond6 i = 1#1

theorem coord0 (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  omega
theorem hcondZ (t : Fin cfg0.N) : condZ (grid0.coords t) ↔ t.val = 0 := by
  have ht : t.val < 65 := Nat.lt_of_lt_of_eq t.isLt N_0
  simp only [condZ, coord0]
  generalize t.val = n at *
  revert ht; revert n; decide
theorem hcondF (t : Fin cfg0.N) : condF (grid0.coords t) ↔ t.val % 16 = 0 := by
  have ht : t.val < 65 := Nat.lt_of_lt_of_eq t.isLt N_0
  simp only [condF, modWord, coord0]
  generalize t.val = n at *
  revert ht; revert n; decide
theorem hcondN (t : Fin cfg0.N) : condN (grid0.coords t) ↔ ¬t.val % 16 = 0 := by
  have ht : t.val < 65 := Nat.lt_of_lt_of_eq t.isLt N_0
  simp only [condN, modWord, coord0]
  generalize t.val = n at *
  revert ht; revert n; decide
theorem hcondE (t : Fin cfg0.N) : condE (grid0.coords t) ↔ t.val % 2 = 0 := by
  have ht : t.val < 65 := Nat.lt_of_lt_of_eq t.isLt N_0
  simp only [condE, k0_cond2, coord0]
  generalize t.val = n at *
  revert ht; revert n; decide
theorem hcondO (t : Fin cfg0.N) : condO (grid0.coords t) ↔ ¬t.val % 2 = 0 := by
  have ht : t.val < 65 := Nat.lt_of_lt_of_eq t.isLt N_0
  simp only [condO, k0_cond6, coord0]
  generalize t.val = n at *
  revert ht; revert n; decide

/-! ## The buffers -/

/-- Window 0's staging buffer at a point. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S256x128 .f32 := win0_8.stage (cfg0.slots t 8)
abbrev hs0_8 (t : Fin cfg0.N) : (ms0_8 t).IsWhole := hstage0_8 ((cfg0.slots t 8).cast nbuf0_8)
/-- Window 9's staging buffer at a point. -/
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
/-- Window 10's staging buffer at a point. -/
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
/-- Scratch buffer 0. -/
abbrev scM0_0 : Memref sig .tc .vmem S2x4x128x384 .bf16 := Memref.whole cc0_scratch0
/-- Scratch buffer 1. -/
abbrev scM0_1 : Memref sig .tc .vmem S2x4x384x256 .bf16 := Memref.whole cc0_scratch1
/-- Scratch buffer 2. -/
abbrev scM0_2 : Memref sig .tc .vmem S2x256x1024 .bf16 := Memref.whole cc0_scratch2
/-- Scratch buffer 3. -/
abbrev scM0_3 : Memref sig .tc .vmem S2x256x1024 .f32 := Memref.whole cc0_scratch3
/-- Scratch buffer 4. -/
abbrev scM0_4 : Memref sig .tc .vmem S256x1024 .bf16 := Memref.whole cc0_scratch4
/-- Scratch buffer 5. -/
abbrev scM0_5 : Memref sig .tc .vmem S1024x256 .bf16 := Memref.whole cc0_scratch5
/-- Scratch buffer 6. -/
abbrev scM0_6 : Memref sig .tc .vmem S1024x2048 .bf16 := Memref.whole cc0_scratch6
/-- Scratch buffer 7. -/
abbrev scM0_7 : Memref sig .tc .vmem S1024x1024 .bf16 := Memref.whole cc0_scratch7
/-- Scratch buffer 8. -/
abbrev scM0_8 : Memref sig .tc .vmem S2x512x256 .f32 := Memref.whole cc0_scoped0
/-- Scratch buffer 9. -/
abbrev scM0_9 : Memref sig .tc .vmem S16x64x2048 .f32 := Memref.whole cc0_scoped2
/-- Scratch buffer 10. -/
abbrev scM0_10 : Memref sig .tc .vmem S8x128x1024 .f32 := Memref.whole cc0_scoped4
/-- A weight left in HBM that the body copies itself. -/
abbrev hbM0_0 : Memref sig .tc .hbm S1024x256 .f32 := Memref.whole main_arg2
/-- A weight left in HBM that the body copies itself. -/
abbrev hbM0_1 : Memref sig .tc .hbm S1024x2048 .f32 := Memref.whole main_v32
/-- A weight left in HBM that the body copies itself. -/
abbrev hbM0_2 : Memref sig .tc .hbm S1024x1024 .f32 := Memref.whole main_v35
/-- Memref `M`'s buffer on core `c`, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphores. -/
abbrev osem0 : Fin 26 → SemLoc sig := fun j => (![SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41] : Fin 26 → SemLoc sig) j
theorem ownSemFacts0 : Pipeline.OwnSemFacts spec0 osem0 := by decide
/-- The twenty-six counters at zero. -/
abbrev sems (c : Dev nD) : sProp 𝕄 :=
  iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0)
theorem ownSems00_eq (c : Dev nD) :
    (Pipeline.ownSems0 (Ix := Unit) (Name := ℕ) (U := Pipeline.UD sig nD τ) (Lvl := ℕ) (Val := Elt F) (τ := τ) osem0 c : sProp 𝕄) = sems c := by
  rw [Pipeline.ownSems0_eq_of_list c osem0 [0, 1, 2, 3, 4, 5, 6, 7, 8, 9, 10, 11, 12, 13, 14, 15, 16, 17, 18, 19, 20, 21, 22, 23, 24, 25] (by decide) (by decide)]; rfl
/-- The arrays the body reads by its own transfers. -/
def H0 : Finset (Ref sig .tc) := {main_arg2, main_v32, main_v35}
theorem H0_sub : H0 ⊆ Pipeline.restRefs sig spec0 := by decide
abbrev hbs (c : Dev nD) : sProp 𝕄 := iprop(hbPt0 c hbM0_0 (V m c main_arg2) ∗ hbPt0 c hbM0_1 (V m c main_v32) ∗ hbPt0 c hbM0_2 (V m c main_v35))
theorem hbmPts0_eq (c : Dev nD) :
    (bigSep H0 (fun b => ((c : Thread nD τ).loc b) ↦{fullShare} V m c b) : sProp 𝕄) = hbs m c := by
  rw [BI.bigSep_eq_bigSepL_of_eq [main_arg2, main_v32, main_v35] (by decide) (by decide)]; rfl

/-- The launch's invariant, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ sems c ∗ hbs m c) := by
  rw [Pipeline.ΦD_eq, scopedRest0_eq, ownSems00_eq, hbmPts0_eq]; simp only [scM0_0, scM0_1, scM0_2, scM0_3, scM0_4, scM0_5, scM0_6, scM0_7, scM0_8, scM0_9, scM0_10, owns_whole]; try rfl

end Cert.Kernel2Ideal.Hand

end
-- ==== Proof.SwaLoad.lean ====
/- The load phase of the attention kernel's first grid point: the row chunks of its three weights travel from HBM through their rings of
   slots into the bf16 weight scratch. The run finds the pieces each of the three scratch buffers ends with. -/
module

public import proofs.«01_k».proof.Proof.SwaSetup

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The elements of `M`, held at some contents. -/
abbrev anyAt (c : Dev nD) {S : Shape} {e : EltTy} (M : Memref sig .tc .vmem S e) : sProp 𝕄 :=
  iprop(∃ f, M.view.loc (c : Thread nD τ) ↦[M.view.set]{fullShare} f)

/-- Slot `k` of the KV ring, as the transfers name it. -/
abbrev slotKV (M : Memref sig .tc .vmem S2x512x256 .f32) (k : ℕ) (h : ∀ a, (![k, 0, 0] : Fin 3 → ℕ) a + S1x512x256.size a ≤ S2x512x256.size a) :
    Memref sig .tc .vmem S512x256 .f32 :=
  (M.slice (Rect.unit (s := S2x512x256) ![k, 0, 0] S1x512x256.size h) (fun _ => rfl)).squeeze S512x256 squeezes_S1x512x256_S512x256
/-- The KV ring's slots, each held by its own elements at some contents. -/
abbrev ringKV (c : Dev nD) (alloca_r0 : Memref sig .tc .vmem S2x512x256 .f32) : sProp 𝕄 :=
  iprop(anyAt c (slotKV alloca_r0 0 inb_S2x512x256_S1x512x256_0_0_0) ∗ anyAt c (slotKV alloca_r0 1 inb_S2x512x256_S1x512x256_1_0_0))

/-- Slot `k` of the In ring, as the transfers name it. -/
abbrev slotIn (M : Memref sig .tc .vmem S16x64x2048 .f32) (k : ℕ) (h : ∀ a, (![k, 0, 0] : Fin 3 → ℕ) a + S1x64x2048.size a ≤ S16x64x2048.size a) :
    Memref sig .tc .vmem S64x2048 .f32 :=
  (M.slice (Rect.unit (s := S16x64x2048) ![k, 0, 0] S1x64x2048.size h) (fun _ => rfl)).squeeze S64x2048 squeezes_S1x64x2048_S64x2048
/-- The In ring's slots, each held by its own elements at some contents. -/
abbrev ringIn (c : Dev nD) (alloca_18_r0 : Memref sig .tc .vmem S16x64x2048 .f32) : sProp 𝕄 :=
  iprop(anyAt c (slotIn alloca_18_r0 0 inb_S16x64x2048_S1x64x2048_0_0_0) ∗ anyAt c (slotIn alloca_18_r0 1 inb_S16x64x2048_S1x64x2048_1_0_0) ∗ anyAt c (slotIn alloca_18_r0 2 inb_S16x64x2048_S1x64x2048_2_0_0) ∗ anyAt c (slotIn alloca_18_r0 3 inb_S16x64x2048_S1x64x2048_3_0_0) ∗ anyAt c (slotIn alloca_18_r0 4 inb_S16x64x2048_S1x64x2048_4_0_0) ∗ anyAt c (slotIn alloca_18_r0 5 inb_S16x64x2048_S1x64x2048_5_0_0) ∗ anyAt c (slotIn alloca_18_r0 6 inb_S16x64x2048_S1x64x2048_6_0_0) ∗ anyAt c (slotIn alloca_18_r0 7 inb_S16x64x2048_S1x64x2048_7_0_0) ∗ anyAt c (slotIn alloca_18_r0 8 inb_S16x64x2048_S1x64x2048_8_0_0) ∗ anyAt c (slotIn alloca_18_r0 9 inb_S16x64x2048_S1x64x2048_9_0_0) ∗ anyAt c (slotIn alloca_18_r0 10 inb_S16x64x2048_S1x64x2048_10_0_0) ∗ anyAt c (slotIn alloca_18_r0 11 inb_S16x64x2048_S1x64x2048_11_0_0) ∗ anyAt c (slotIn alloca_18_r0 12 inb_S16x64x2048_S1x64x2048_12_0_0) ∗ anyAt c (slotIn alloca_18_r0 13 inb_S16x64x2048_S1x64x2048_13_0_0) ∗ anyAt c (slotIn alloca_18_r0 14 inb_S16x64x2048_S1x64x2048_14_0_0) ∗ anyAt c (slotIn alloca_18_r0 15 inb_S16x64x2048_S1x64x2048_15_0_0))

/-- Slot `k` of the Out ring, as the transfers name it. -/
abbrev slotOut (M : Memref sig .tc .vmem S8x128x1024 .f32) (k : ℕ) (h : ∀ a, (![k, 0, 0] : Fin 3 → ℕ) a + S1x128x1024.size a ≤ S8x128x1024.size a) :
    Memref sig .tc .vmem S128x1024 .f32 :=
  (M.slice (Rect.unit (s := S8x128x1024) ![k, 0, 0] S1x128x1024.size h) (fun _ => rfl)).squeeze S128x1024 squeezes_S1x128x1024_S128x1024
/-- The Out ring's slots, each held by its own elements at some contents. -/
abbrev ringOut (c : Dev nD) (alloca_19_r0 : Memref sig .tc .vmem S8x128x1024 .f32) : sProp 𝕄 :=
  iprop(anyAt c (slotOut alloca_19_r0 0 inb_S8x128x1024_S1x128x1024_0_0_0) ∗ anyAt c (slotOut alloca_19_r0 1 inb_S8x128x1024_S1x128x1024_1_0_0) ∗ anyAt c (slotOut alloca_19_r0 2 inb_S8x128x1024_S1x128x1024_2_0_0) ∗ anyAt c (slotOut alloca_19_r0 3 inb_S8x128x1024_S1x128x1024_3_0_0) ∗ anyAt c (slotOut alloca_19_r0 4 inb_S8x128x1024_S1x128x1024_4_0_0) ∗ anyAt c (slotOut alloca_19_r0 5 inb_S8x128x1024_S1x128x1024_5_0_0) ∗ anyAt c (slotOut alloca_19_r0 6 inb_S8x128x1024_S1x128x1024_6_0_0) ∗ anyAt c (slotOut alloca_19_r0 7 inb_S8x128x1024_S1x128x1024_7_0_0))

/-- What the first grid point runs before anything else: the weights' transfers. -/
def loadProg (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) :
    Prog (TpuEff nD τ sig (Elt F) Λ₀ .tc) PUnit := do
  k0_part17 i arg1 harg1 arg2 harg2 arg3 harg3 arg4 harg4 arg5 harg5 (Memref.whole main_arg2) (Memref.isWhole_whole _) arg7 harg7 (Memref.whole main_v32) (Memref.isWhole_whole _) arg9 harg9 (Memref.whole main_v35) (Memref.isWhole_whole _) arg11 harg11 arg12 harg12 arg13 harg13 arg14 harg14 arg15 harg15 arg16 harg16 arg17 harg17 arg18 harg18 arg19 harg19 arg20 harg20 arg21 harg21 arg22 harg22 alloca_r0 halloca_r0 cc0_scoped1 alloca_18_r0 halloca_18_r0 cc0_scoped3 alloca_19_r0 halloca_19_r0 cc0_scoped5
  pure ⟨⟩

set_option maxHeartbeats 9580000 in
/-- The load phase run from the rings' slots held one by one: it ends with the slots and semaphores as it found them, the three HBM
    operands unchanged, and the three weight scratch buffers with the pieces the run finds written over whatever they held. -/
noncomputable def loadRun (c : Dev nD) (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole)
    (x4 : Vec F S1x1024 .f32) (x5 : Vec F S1x1024 .f32) (fh0 : HbBuf0 (F := F) c hbM0_0) (fh1 : HbBuf0 (F := F) c hbM0_1) (fh2 : HbBuf0 (F := F) c hbM0_2) :
    Σ' (L1 : List (View.Piece (Elt F) S1024x256 .bf16)), Σ' (L2 : List (View.Piece (Elt F) S1024x2048 .bf16)), { L3 : List (View.Piece (Elt F) S1024x1024 .bf16) //
      ∀ (W : Waits sig Unit) (K : PUnit → sProp 𝕄),
        iprop(owns (c : Thread nD τ) arg4 fullShare x4 ∗ owns (c : Thread nD τ) arg5 fullShare x5 ∗ (∃ d, owns (c : Thread nD τ) arg20 fullShare d) ∗ (∃ d, owns (c : Thread nD τ) arg21 fullShare d) ∗ (∃ d, owns (c : Thread nD τ) arg22 fullShare d)
            ∗ ringKV c alloca_r0 ∗ ringIn c alloca_18_r0 ∗ ringOut c alloca_19_r0 ∗ sems c ∗ hbPt0 c hbM0_0 fh0 ∗ hbPt0 c hbM0_1 fh1 ∗ hbPt0 c hbM0_2 fh2 ∗ owes (c : Thread nD τ) 0 W
            ∗ (iprop(owns (c : Thread nD τ) arg4 fullShare x4 ∗ owns (c : Thread nD τ) arg5 fullShare x5
                ∗ (∃ f, arg20.view.loc (c : Thread nD τ) ↦[arg20.view.set]{fullShare} arg20.view.writes (Elt F) f L1) ∗ (∃ f, arg21.view.loc (c : Thread nD τ) ↦[arg21.view.set]{fullShare} arg21.view.writes (Elt F) f L2) ∗ (∃ f, arg22.view.loc (c : Thread nD τ) ↦[arg22.view.set]{fullShare} arg22.view.writes (Elt F) f L3)
                ∗ ringKV c alloca_r0 ∗ ringIn c alloca_18_r0 ∗ ringOut c alloca_19_r0 ∗ sems c ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (loadProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0) K } := by
  refine ⟨?_, ?_, ?_, fun W K => ?run⟩
  case run =>
    unfold loadProg
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold k0_part17_skel
    unfold ringKV ringIn ringOut sems owns anyAt slotKV slotIn slotOut
    iintro ⟨⟨%f4, %hf4, H4⟩, ⟨%f5, %hf5, H5⟩, ⟨%ds1, %fs1, -, HS1⟩, ⟨%ds2, %fs2, -, HS2⟩, ⟨%ds3, %fs3, -, HS3⟩, ⟨⟨%gKV0, HKV0⟩, ⟨%gKV1, HKV1⟩⟩, ⟨⟨%gIn0, HIn0⟩, ⟨%gIn1, HIn1⟩, ⟨%gIn2, HIn2⟩, ⟨%gIn3, HIn3⟩, ⟨%gIn4, HIn4⟩, ⟨%gIn5, HIn5⟩, ⟨%gIn6, HIn6⟩, ⟨%gIn7, HIn7⟩, ⟨%gIn8, HIn8⟩, ⟨%gIn9, HIn9⟩, ⟨%gIn10, HIn10⟩, ⟨%gIn11, HIn11⟩, ⟨%gIn12, HIn12⟩, ⟨%gIn13, HIn13⟩, ⟨%gIn14, HIn14⟩, ⟨%gIn15, HIn15⟩⟩, ⟨⟨%gOut0, HOut0⟩, ⟨%gOut1, HOut1⟩, ⟨%gOut2, HOut2⟩, ⟨%gOut3, HOut3⟩, ⟨%gOut4, HOut4⟩, ⟨%gOut5, HOut5⟩, ⟨%gOut6, HOut6⟩, ⟨%gOut7, HOut7⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, Hh0, Hh1, Hh2, HW, Hk⟩
    obtain rfl := harg4.eq_unread hf4; obtain rfl := harg5.eq_unread hf5
    sl_exec
    sl_step
    iapply Hk
    isplitl [H4]
    · iexists _; isplitr; · ipureintro; exact harg4.read_unread _
      iexact H4
    isplitl [H5]
    · iexists _; isplitr; · ipureintro; exact harg5.read_unread _
      iexact H5
    isplitl [HS1]
    · iexists _; iexact HS1
    isplitl [HS2]
    · iexists _; iexact HS2
    isplitl [HS3]
    · iexists _; iexact HS3
    isplitl [HKV0 HKV1]
    · isplitl [HKV0]; · iexists _; iexact HKV0
      iexists _; iexact HKV1
    isplitl [HIn0 HIn1 HIn2 HIn3 HIn4 HIn5 HIn6 HIn7 HIn8 HIn9 HIn10 HIn11 HIn12 HIn13 HIn14 HIn15]
    · isplitl [HIn0]; · iexists _; iexact HIn0
      isplitl [HIn1]; · iexists _; iexact HIn1
      isplitl [HIn2]; · iexists _; iexact HIn2
      isplitl [HIn3]; · iexists _; iexact HIn3
      isplitl [HIn4]; · iexists _; iexact HIn4
      isplitl [HIn5]; · iexists _; iexact HIn5
      isplitl [HIn6]; · iexists _; iexact HIn6
      isplitl [HIn7]; · iexists _; iexact HIn7
      isplitl [HIn8]; · iexists _; iexact HIn8
      isplitl [HIn9]; · iexists _; iexact HIn9
      isplitl [HIn10]; · iexists _; iexact HIn10
      isplitl [HIn11]; · iexists _; iexact HIn11
      isplitl [HIn12]; · iexists _; iexact HIn12
      isplitl [HIn13]; · iexists _; iexact HIn13
      isplitl [HIn14]; · iexists _; iexact HIn14
      iexists _; iexact HIn15
    isplitl [HOut0 HOut1 HOut2 HOut3 HOut4 HOut5 HOut6 HOut7]
    · isplitl [HOut0]; · iexists _; iexact HOut0
      isplitl [HOut1]; · iexists _; iexact HOut1
      isplitl [HOut2]; · iexists _; iexact HOut2
      isplitl [HOut3]; · iexists _; iexact HOut3
      isplitl [HOut4]; · iexists _; iexact HOut4
      isplitl [HOut5]; · iexists _; iexact HOut5
      isplitl [HOut6]; · iexists _; iexact HOut6
      iexists _; iexact HOut7
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      iexact Hq25
    isplitl [Hh0]; · iexact Hh0
    isplitl [Hh1]; · iexact Hh1
    isplitl [Hh2]; · iexact Hh2
    iexists _; iexact HW

end Cert.Kernel2Ideal.Hand

end
-- ==== Proof.SwaRest.lean ====
/- A grid point's program split after the first point's transfers. -/
module

public import proofs.«01_k».proof.Proof.SwaLoad

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What a grid point runs after the first point's transfers: at an even point one half of the slots, at an odd point the other. -/
def restProg (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) :
    Prog (TpuEff nD τ sig (Elt F) Λ₀ .tc) PUnit := do
  let arg0 : BitVec 32 := BitVec.ofNat 32 (i 0).val
  if k0_h2 : k0_cond2 i = 1#1 then do
    let v59 : FVec F S256x1024 .bf16 ← k0_part51 i arg1 harg1 arg2 harg2 arg3 harg3 arg4 harg4 arg5 harg5 (Memref.whole main_arg2) (Memref.isWhole_whole _) arg7 harg7 (Memref.whole main_v32) (Memref.isWhole_whole _) arg9 harg9 (Memref.whole main_v35) (Memref.isWhole_whole _) arg11 harg11 arg12 harg12 arg13 harg13 arg14 harg14 arg15 harg15 arg16 harg16 arg17 harg17 arg18 harg18 arg19 harg19 arg20 harg20 arg21 harg21 arg22 harg22 alloca_r0 halloca_r0 cc0_scoped1 alloca_18_r0 halloca_18_r0 cc0_scoped3 alloca_19_r0 halloca_19_r0 cc0_scoped5 arg0
    let v1400 : Vec F S1024x256 .bf16 ← Prog.lift (.load arg21 (Rect.unit (s := S1024x2048) ![0, 1792] S1024x256.size inb_S1024x2048_S1024x256_0_1792).toLoadRect (View.loadsAt_vmem h_S1024x256))
    let v1402 : Vec F S1x256x256 .f32 ← Prog.lift (.load arg18 (Rect.unit (s := S2x256x1024) ![0, 0, 768] S1x256x256.size inb_S2x256x1024_S1x256x256_0_0_768).toLoadRect (View.loadsAt_vmem h_S1x256x256))
    Prog.lift (.store arg18 (Rect.unit (s := S2x256x1024) ![0, 0, 768] S1x256x256.size inb_S2x256x1024_S1x256x256_0_0_768) (k0_pay1 v59 v1400) Finset.univ (View.stores_vmem_bits_univ h_S1x256x256 rfl) (.inl rfl))
    pure ⟨⟩
  else do
    pure ⟨⟩
  if k0_h6 : k0_cond6 i = 1#1 then do
    let v1398 : FVec F S256x256 .f32 ← k0_part85 i arg1 harg1 arg2 harg2 arg3 harg3 arg4 harg4 arg5 harg5 (Memref.whole main_arg2) (Memref.isWhole_whole _) arg7 harg7 (Memref.whole main_v32) (Memref.isWhole_whole _) arg9 harg9 (Memref.whole main_v35) (Memref.isWhole_whole _) arg11 harg11 arg12 harg12 arg13 harg13 arg14 harg14 arg15 harg15 arg16 harg16 arg17 harg17 arg18 harg18 arg19 harg19 arg20 harg20 arg21 harg21 arg22 harg22 alloca_r0 halloca_r0 cc0_scoped1 alloca_18_r0 halloca_18_r0 cc0_scoped3 alloca_19_r0 halloca_19_r0 cc0_scoped5 arg0
    let v1399 : Vec F S1x256x256 .f32 ← Prog.lift (.load arg18 (Rect.unit (s := S2x256x1024) ![1, 0, 768] S1x256x256.size inb_S2x256x1024_S1x256x256_1_0_768).toLoadRect (View.loadsAt_vmem h_S1x256x256))
    Prog.lift (.store arg18 (Rect.unit (s := S2x256x1024) ![1, 0, 768] S1x256x256.size inb_S2x256x1024_S1x256x256_1_0_768) (k0_pay2 v1398) Finset.univ (View.stores_vmem_bits_univ h_S1x256x256 rfl) (.inl rfl))
    pure ⟨⟩
  else do
    pure ⟨⟩
  pure ⟨⟩

/-- The body at the first point is the transfers and then the rest; -/
theorem body_load (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) (hc : condZ i) :
    cc0_swa_layer (F := F) i arg1 harg1 arg2 harg2 arg3 harg3 arg4 harg4 arg5 harg5 (Memref.whole main_arg2) (Memref.isWhole_whole _) arg7 harg7 (Memref.whole main_v32) (Memref.isWhole_whole _) arg9 harg9 (Memref.whole main_v35) (Memref.isWhole_whole _) arg11 harg11 arg12 harg12 arg13 harg13 arg14 harg14 arg15 harg15 arg16 harg16 arg17 harg17 arg18 harg18 arg19 harg19 arg20 harg20 arg21 harg21 arg22 harg22 alloca_r0 halloca_r0 cc0_scoped1 alloca_18_r0 halloca_18_r0 cc0_scoped3 alloca_19_r0 halloca_19_r0 cc0_scoped5 = loadProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0 >>= fun _ => restProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0 := by
  simp only [cc0_swa_layer_eq_skeleton]
  unfold cc0_swa_layer_skel loadProg restProg
  dsimp only
  rw [dif_pos hc]
  simp only [bind_assoc, pure_bind]
  try rfl

/-- at any other point it is the rest alone. -/
theorem body_skip (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) (hc : ¬condZ i) :
    cc0_swa_layer (F := F) i arg1 harg1 arg2 harg2 arg3 harg3 arg4 harg4 arg5 harg5 (Memref.whole main_arg2) (Memref.isWhole_whole _) arg7 harg7 (Memref.whole main_v32) (Memref.isWhole_whole _) arg9 harg9 (Memref.whole main_v35) (Memref.isWhole_whole _) arg11 harg11 arg12 harg12 arg13 harg13 arg14 harg14 arg15 harg15 arg16 harg16 arg17 harg17 arg18 harg18 arg19 harg19 arg20 harg20 arg21 harg21 arg22 harg22 alloca_r0 halloca_r0 cc0_scoped1 alloca_18_r0 halloca_18_r0 cc0_scoped3 alloca_19_r0 halloca_19_r0 cc0_scoped5 = restProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0 := by
  simp only [cc0_swa_layer_eq_skeleton]
  unfold cc0_swa_layer_skel restProg
  dsimp only
  rw [dif_neg hc]
  try simp only [pure_bind]
  try rfl

end Cert.Kernel2Ideal.Hand

end
-- ==== Proof.SwaRunZ.lean ====
/- The first grid point's run after its transfers. -/
module

public import proofs.«01_k».proof.Proof.SwaRest

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 40000000 in
/-- The first grid point's run after its transfers. The inputs and the weights are left as found; the run finds the pieces written over the
    keys', values', queries' and gate's scratch buffers and those of the output block. -/
noncomputable def runZ (c : Dev nD) (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) (hE : condE i) (hO : ¬condO i) (hZ : condZ i) (hF : condF i) (hN : ¬condN i)
    (x1 : Vec F S16 .f32) (x2 : Vec F S256x1024 .f32) (x3 : Vec F S256x1024 .f32) (x7 : Vec F S1x256 .f32) (x9 : Vec F S1x1024 .f32) (x11 : Vec F S1x1024 .f32) (x12 : Vec F S256x128 .f32) (x13 : Vec F S256x128 .f32) (x20 : Vec F S1024x256 .bf16) (x21 : Vec F S1024x2048 .bf16) (x22 : Vec F S1024x1024 .bf16) (x15 : Vec F S2x4x128x384 .bf16) (x16 : Vec F S2x4x384x256 .bf16) (x17 : Vec F S2x256x1024 .bf16) (x18 : Vec F S2x256x1024 .f32) :
    Σ' (L0 : List (View.Piece (Elt F) S256x1024 .f32)), Σ' (L1 : List (View.Piece (Elt F) S2x4x128x384 .bf16)), Σ' (L2 : List (View.Piece (Elt F) S2x4x384x256 .bf16)), Σ' (L3 : List (View.Piece (Elt F) S2x256x1024 .bf16)), { L4 : List (View.Piece (Elt F) S2x256x1024 .f32) //
      ∀ (K : PUnit → sProp 𝕄),
        iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ (arg15.view.loc (c : Thread nD τ) ↦[arg15.view.set]{fullShare} arg15.view.writes (Elt F) (harg15.unread x15) L1) ∗ (arg16.view.loc (c : Thread nD τ) ↦[arg16.view.set]{fullShare} arg16.view.writes (Elt F) (harg16.unread x16) L2) ∗ (arg17.view.loc (c : Thread nD τ) ↦[arg17.view.set]{fullShare} arg17.view.writes (Elt F) (harg17.unread x17) L3) ∗ (arg18.view.loc (c : Thread nD τ) ↦[arg18.view.set]{fullShare} arg18.view.writes (Elt F) (harg18.unread x18) L4) ∗ (∃ d, owns (c : Thread nD τ) arg19 fullShare d) ∗ (∃ f, arg14.view.loc (c : Thread nD τ) ↦[arg14.view.set]{fullShare} arg14.view.writes (Elt F) f L0)) -∗ K ⟨⟩))
          ⊢ wp frame (wpE (defs₀ (F := F)) Variants.none c none) Set.univ (restProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0) K } := by
  refine ⟨?_, ?_, ?_, ?_, ?_, fun K => ?run⟩
  case run =>
    unfold restProg
    simp only [k0_part51_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold k0_part51_skel
    unfold owns
    iintro ⟨⟨%f1, %hf1, H1⟩, ⟨%f2, %hf2, H2⟩, ⟨%f3, %hf3, H3⟩, ⟨%f7, %hf7, H7⟩, ⟨%f9, %hf9, H9⟩, ⟨%f11, %hf11, H11⟩, ⟨%f12, %hf12, H12⟩, ⟨%f13, %hf13, H13⟩, ⟨%f20, %hf20, H20⟩, ⟨%f21, %hf21, H21⟩, ⟨%f22, %hf22, H22⟩, ⟨%f15, %hf15, H15⟩, ⟨%f16, %hf16, H16⟩, ⟨%f17, %hf17, H17⟩, ⟨%f18, %hf18, H18⟩, ⟨%d19, %f19, -, H19⟩, ⟨%d14, %f14, -, H14⟩, Hk⟩
    obtain rfl := harg1.eq_unread hf1; obtain rfl := harg2.eq_unread hf2; obtain rfl := harg3.eq_unread hf3; obtain rfl := harg7.eq_unread hf7; obtain rfl := harg9.eq_unread hf9; obtain rfl := harg11.eq_unread hf11; obtain rfl := harg12.eq_unread hf12; obtain rfl := harg13.eq_unread hf13; obtain rfl := harg20.eq_unread hf20; obtain rfl := harg21.eq_unread hf21; obtain rfl := harg22.eq_unread hf22; obtain rfl := harg15.eq_unread hf15; obtain rfl := harg16.eq_unread hf16; obtain rfl := harg17.eq_unread hf17; obtain rfl := harg18.eq_unread hf18
    sl_exec (disch := first | sl_exact hE | sl_exact hO | sl_exact hZ | sl_exact hF | sl_exact hN)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H7]
    · iexists _; isplitr; · ipureintro; exact harg7.read_unread _
      iexact H7
    isplitl [H9]
    · iexists _; isplitr; · ipureintro; exact harg9.read_unread _
      iexact H9
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H15]
    · iexact H15
    isplitl [H16]
    · iexact H16
    isplitl [H17]
    · iexact H17
    isplitl [H18]
    · iexact H18
    isplitl [H19]
    · iexists _, _; isplitr; swap; · iexact H19
      ipureintro; rfl
    iexists _; iexact H14

end Cert.Kernel2Ideal.Hand

end
-- ==== Proof.SwaRunF.lean ====
/- An even point's run at the beginning of a later sequence. -/
module

public import proofs.«01_k».proof.Proof.SwaRest

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 40000000 in
/-- An even point's run at the beginning of a later sequence. The inputs and the weights are left as found; the run finds the pieces written over the
    keys', values', queries' and gate's scratch buffers and those of the output block. -/
noncomputable def runF (c : Dev nD) (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) (hE : condE i) (hO : ¬condO i) (hZ : ¬condZ i) (hF : condF i) (hN : ¬condN i)
    (x1 : Vec F S16 .f32) (x2 : Vec F S256x1024 .f32) (x3 : Vec F S256x1024 .f32) (x7 : Vec F S1x256 .f32) (x9 : Vec F S1x1024 .f32) (x11 : Vec F S1x1024 .f32) (x12 : Vec F S256x128 .f32) (x13 : Vec F S256x128 .f32) (x20 : Vec F S1024x256 .bf16) (x21 : Vec F S1024x2048 .bf16) (x22 : Vec F S1024x1024 .bf16) (x15 : Vec F S2x4x128x384 .bf16) (x16 : Vec F S2x4x384x256 .bf16) (x17 : Vec F S2x256x1024 .bf16) (x18 : Vec F S2x256x1024 .f32) :
    Σ' (L0 : List (View.Piece (Elt F) S256x1024 .f32)), Σ' (L1 : List (View.Piece (Elt F) S2x4x128x384 .bf16)), Σ' (L2 : List (View.Piece (Elt F) S2x4x384x256 .bf16)), Σ' (L3 : List (View.Piece (Elt F) S2x256x1024 .bf16)), { L4 : List (View.Piece (Elt F) S2x256x1024 .f32) //
      ∀ (K : PUnit → sProp 𝕄),
        iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ (arg15.view.loc (c : Thread nD τ) ↦[arg15.view.set]{fullShare} arg15.view.writes (Elt F) (harg15.unread x15) L1) ∗ (arg16.view.loc (c : Thread nD τ) ↦[arg16.view.set]{fullShare} arg16.view.writes (Elt F) (harg16.unread x16) L2) ∗ (arg17.view.loc (c : Thread nD τ) ↦[arg17.view.set]{fullShare} arg17.view.writes (Elt F) (harg17.unread x17) L3) ∗ (arg18.view.loc (c : Thread nD τ) ↦[arg18.view.set]{fullShare} arg18.view.writes (Elt F) (harg18.unread x18) L4) ∗ (∃ d, owns (c : Thread nD τ) arg19 fullShare d) ∗ (∃ f, arg14.view.loc (c : Thread nD τ) ↦[arg14.view.set]{fullShare} arg14.view.writes (Elt F) f L0)) -∗ K ⟨⟩))
          ⊢ wp frame (wpE (defs₀ (F := F)) Variants.none c none) Set.univ (restProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0) K } := by
  refine ⟨?_, ?_, ?_, ?_, ?_, fun K => ?run⟩
  case run =>
    unfold restProg
    simp only [k0_part51_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold k0_part51_skel
    unfold owns
    iintro ⟨⟨%f1, %hf1, H1⟩, ⟨%f2, %hf2, H2⟩, ⟨%f3, %hf3, H3⟩, ⟨%f7, %hf7, H7⟩, ⟨%f9, %hf9, H9⟩, ⟨%f11, %hf11, H11⟩, ⟨%f12, %hf12, H12⟩, ⟨%f13, %hf13, H13⟩, ⟨%f20, %hf20, H20⟩, ⟨%f21, %hf21, H21⟩, ⟨%f22, %hf22, H22⟩, ⟨%f15, %hf15, H15⟩, ⟨%f16, %hf16, H16⟩, ⟨%f17, %hf17, H17⟩, ⟨%f18, %hf18, H18⟩, ⟨%d19, %f19, -, H19⟩, ⟨%d14, %f14, -, H14⟩, Hk⟩
    obtain rfl := harg1.eq_unread hf1; obtain rfl := harg2.eq_unread hf2; obtain rfl := harg3.eq_unread hf3; obtain rfl := harg7.eq_unread hf7; obtain rfl := harg9.eq_unread hf9; obtain rfl := harg11.eq_unread hf11; obtain rfl := harg12.eq_unread hf12; obtain rfl := harg13.eq_unread hf13; obtain rfl := harg20.eq_unread hf20; obtain rfl := harg21.eq_unread hf21; obtain rfl := harg22.eq_unread hf22; obtain rfl := harg15.eq_unread hf15; obtain rfl := harg16.eq_unread hf16; obtain rfl := harg17.eq_unread hf17; obtain rfl := harg18.eq_unread hf18
    sl_exec (disch := first | sl_exact hE | sl_exact hO | sl_exact hZ | sl_exact hF | sl_exact hN)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H7]
    · iexists _; isplitr; · ipureintro; exact harg7.read_unread _
      iexact H7
    isplitl [H9]
    · iexists _; isplitr; · ipureintro; exact harg9.read_unread _
      iexact H9
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H15]
    · iexact H15
    isplitl [H16]
    · iexact H16
    isplitl [H17]
    · iexact H17
    isplitl [H18]
    · iexact H18
    isplitl [H19]
    · iexists _, _; isplitr; swap; · iexact H19
      ipureintro; rfl
    iexists _; iexact H14

end Cert.Kernel2Ideal.Hand

end
-- ==== Proof.SwaRunN.lean ====
/- An even point's run inside a sequence. -/
module

public import proofs.«01_k».proof.Proof.SwaRest

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 40000000 in
/-- An even point's run inside a sequence. The inputs and the weights are left as found; the run finds the pieces written over the
    keys', values', queries' and gate's scratch buffers and those of the output block. -/
noncomputable def runN (c : Dev nD) (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) (hE : condE i) (hO : ¬condO i) (hZ : ¬condZ i) (hF : ¬condF i) (hN : condN i)
    (x1 : Vec F S16 .f32) (x2 : Vec F S256x1024 .f32) (x3 : Vec F S256x1024 .f32) (x7 : Vec F S1x256 .f32) (x9 : Vec F S1x1024 .f32) (x11 : Vec F S1x1024 .f32) (x12 : Vec F S256x128 .f32) (x13 : Vec F S256x128 .f32) (x20 : Vec F S1024x256 .bf16) (x21 : Vec F S1024x2048 .bf16) (x22 : Vec F S1024x1024 .bf16) (x15 : Vec F S2x4x128x384 .bf16) (x16 : Vec F S2x4x384x256 .bf16) (x17 : Vec F S2x256x1024 .bf16) (x18 : Vec F S2x256x1024 .f32) :
    Σ' (L0 : List (View.Piece (Elt F) S256x1024 .f32)), Σ' (L1 : List (View.Piece (Elt F) S2x4x128x384 .bf16)), Σ' (L2 : List (View.Piece (Elt F) S2x4x384x256 .bf16)), Σ' (L3 : List (View.Piece (Elt F) S2x256x1024 .bf16)), { L4 : List (View.Piece (Elt F) S2x256x1024 .f32) //
      ∀ (K : PUnit → sProp 𝕄),
        iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ (arg15.view.loc (c : Thread nD τ) ↦[arg15.view.set]{fullShare} arg15.view.writes (Elt F) (harg15.unread x15) L1) ∗ (arg16.view.loc (c : Thread nD τ) ↦[arg16.view.set]{fullShare} arg16.view.writes (Elt F) (harg16.unread x16) L2) ∗ (arg17.view.loc (c : Thread nD τ) ↦[arg17.view.set]{fullShare} arg17.view.writes (Elt F) (harg17.unread x17) L3) ∗ (arg18.view.loc (c : Thread nD τ) ↦[arg18.view.set]{fullShare} arg18.view.writes (Elt F) (harg18.unread x18) L4) ∗ (∃ d, owns (c : Thread nD τ) arg19 fullShare d) ∗ (∃ f, arg14.view.loc (c : Thread nD τ) ↦[arg14.view.set]{fullShare} arg14.view.writes (Elt F) f L0)) -∗ K ⟨⟩))
          ⊢ wp frame (wpE (defs₀ (F := F)) Variants.none c none) Set.univ (restProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0) K } := by
  refine ⟨?_, ?_, ?_, ?_, ?_, fun K => ?run⟩
  case run =>
    unfold restProg
    simp only [k0_part51_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold k0_part51_skel
    unfold owns
    iintro ⟨⟨%f1, %hf1, H1⟩, ⟨%f2, %hf2, H2⟩, ⟨%f3, %hf3, H3⟩, ⟨%f7, %hf7, H7⟩, ⟨%f9, %hf9, H9⟩, ⟨%f11, %hf11, H11⟩, ⟨%f12, %hf12, H12⟩, ⟨%f13, %hf13, H13⟩, ⟨%f20, %hf20, H20⟩, ⟨%f21, %hf21, H21⟩, ⟨%f22, %hf22, H22⟩, ⟨%f15, %hf15, H15⟩, ⟨%f16, %hf16, H16⟩, ⟨%f17, %hf17, H17⟩, ⟨%f18, %hf18, H18⟩, ⟨%d19, %f19, -, H19⟩, ⟨%d14, %f14, -, H14⟩, Hk⟩
    obtain rfl := harg1.eq_unread hf1; obtain rfl := harg2.eq_unread hf2; obtain rfl := harg3.eq_unread hf3; obtain rfl := harg7.eq_unread hf7; obtain rfl := harg9.eq_unread hf9; obtain rfl := harg11.eq_unread hf11; obtain rfl := harg12.eq_unread hf12; obtain rfl := harg13.eq_unread hf13; obtain rfl := harg20.eq_unread hf20; obtain rfl := harg21.eq_unread hf21; obtain rfl := harg22.eq_unread hf22; obtain rfl := harg15.eq_unread hf15; obtain rfl := harg16.eq_unread hf16; obtain rfl := harg17.eq_unread hf17; obtain rfl := harg18.eq_unread hf18
    sl_exec (disch := first | sl_exact hE | sl_exact hO | sl_exact hZ | sl_exact hF | sl_exact hN)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H7]
    · iexists _; isplitr; · ipureintro; exact harg7.read_unread _
      iexact H7
    isplitl [H9]
    · iexists _; isplitr; · ipureintro; exact harg9.read_unread _
      iexact H9
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H15]
    · iexact H15
    isplitl [H16]
    · iexact H16
    isplitl [H17]
    · iexact H17
    isplitl [H18]
    · iexact H18
    isplitl [H19]
    · iexists _, _; isplitr; swap; · iexact H19
      ipureintro; rfl
    iexists _; iexact H14

end Cert.Kernel2Ideal.Hand

end
-- ==== Proof.SwaRunO.lean ====
/- An odd point's run. -/
module

public import proofs.«01_k».proof.Proof.SwaRest

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 40000000 in
/-- An odd point's run. The inputs and the weights are left as found; the run finds the pieces written over the
    keys', values', queries' and gate's scratch buffers and those of the output block. -/
noncomputable def runO (c : Dev nD) (i : grid0.Coords) (arg1 : Memref sig .tc .smem S16 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x1024 .f32) (harg5 : arg5.IsWhole) (arg7 : Memref sig .tc .vmem S1x256 .f32) (harg7 : arg7.IsWhole) (arg9 : Memref sig .tc .vmem S1x1024 .f32) (harg9 : arg9.IsWhole) (arg11 : Memref sig .tc .vmem S1x1024 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x1024 .f32) (harg14 : arg14.IsWhole) (arg15 : Memref sig .tc .vmem S2x4x128x384 .bf16) (harg15 : arg15.IsWhole) (arg16 : Memref sig .tc .vmem S2x4x384x256 .bf16) (harg16 : arg16.IsWhole) (arg17 : Memref sig .tc .vmem S2x256x1024 .bf16) (harg17 : arg17.IsWhole) (arg18 : Memref sig .tc .vmem S2x256x1024 .f32) (harg18 : arg18.IsWhole) (arg19 : Memref sig .tc .vmem S256x1024 .bf16) (harg19 : arg19.IsWhole) (arg20 : Memref sig .tc .vmem S1024x256 .bf16) (harg20 : arg20.IsWhole) (arg21 : Memref sig .tc .vmem S1024x2048 .bf16) (harg21 : arg21.IsWhole) (arg22 : Memref sig .tc .vmem S1024x1024 .bf16) (harg22 : arg22.IsWhole) (alloca_r0 : Memref sig .tc .vmem S2x512x256 .f32) (halloca_r0 : alloca_r0.IsWhole) (alloca_18_r0 : Memref sig .tc .vmem S16x64x2048 .f32) (halloca_18_r0 : alloca_18_r0.IsWhole) (alloca_19_r0 : Memref sig .tc .vmem S8x128x1024 .f32) (halloca_19_r0 : alloca_19_r0.IsWhole) (hE : ¬condE i) (hO : condO i) (hF : ¬condF i) (hN : condN i)
    (x1 : Vec F S16 .f32) (x2 : Vec F S256x1024 .f32) (x3 : Vec F S256x1024 .f32) (x7 : Vec F S1x256 .f32) (x9 : Vec F S1x1024 .f32) (x11 : Vec F S1x1024 .f32) (x12 : Vec F S256x128 .f32) (x13 : Vec F S256x128 .f32) (x20 : Vec F S1024x256 .bf16) (x21 : Vec F S1024x2048 .bf16) (x22 : Vec F S1024x1024 .bf16) (x15 : Vec F S2x4x128x384 .bf16) (x16 : Vec F S2x4x384x256 .bf16) (x17 : Vec F S2x256x1024 .bf16) (x18 : Vec F S2x256x1024 .f32) :
    Σ' (L0 : List (View.Piece (Elt F) S256x1024 .f32)), Σ' (L1 : List (View.Piece (Elt F) S2x4x128x384 .bf16)), Σ' (L2 : List (View.Piece (Elt F) S2x4x384x256 .bf16)), Σ' (L3 : List (View.Piece (Elt F) S2x256x1024 .bf16)), { L4 : List (View.Piece (Elt F) S2x256x1024 .f32) //
      ∀ (K : PUnit → sProp 𝕄),
        iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg7 fullShare x7 ∗ owns (c : Thread nD τ) arg9 fullShare x9 ∗ owns (c : Thread nD τ) arg11 fullShare x11 ∗ owns (c : Thread nD τ) arg12 fullShare x12 ∗ owns (c : Thread nD τ) arg13 fullShare x13 ∗ owns (c : Thread nD τ) arg20 fullShare x20 ∗ owns (c : Thread nD τ) arg21 fullShare x21 ∗ owns (c : Thread nD τ) arg22 fullShare x22 ∗ (arg15.view.loc (c : Thread nD τ) ↦[arg15.view.set]{fullShare} arg15.view.writes (Elt F) (harg15.unread x15) L1) ∗ (arg16.view.loc (c : Thread nD τ) ↦[arg16.view.set]{fullShare} arg16.view.writes (Elt F) (harg16.unread x16) L2) ∗ (arg17.view.loc (c : Thread nD τ) ↦[arg17.view.set]{fullShare} arg17.view.writes (Elt F) (harg17.unread x17) L3) ∗ (arg18.view.loc (c : Thread nD τ) ↦[arg18.view.set]{fullShare} arg18.view.writes (Elt F) (harg18.unread x18) L4) ∗ (∃ d, owns (c : Thread nD τ) arg19 fullShare d) ∗ (∃ f, arg14.view.loc (c : Thread nD τ) ↦[arg14.view.set]{fullShare} arg14.view.writes (Elt F) f L0)) -∗ K ⟨⟩))
          ⊢ wp frame (wpE (defs₀ (F := F)) Variants.none c none) Set.univ (restProg i arg1 harg1 arg2 harg2 arg3 harg3 arg4 harg4 arg5 harg5 arg7 harg7 arg9 harg9 arg11 harg11 arg12 harg12 arg13 harg13 arg14 harg14 arg15 harg15 arg16 harg16 arg17 harg17 arg18 harg18 arg19 harg19 arg20 harg20 arg21 harg21 arg22 harg22 alloca_r0 halloca_r0 alloca_18_r0 halloca_18_r0 alloca_19_r0 halloca_19_r0) K } := by
  refine ⟨?_, ?_, ?_, ?_, ?_, fun K => ?run⟩
  case run =>
    unfold restProg
    simp only [k0_part85_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    unfold k0_part85_skel
    unfold owns
    iintro ⟨⟨%f1, %hf1, H1⟩, ⟨%f2, %hf2, H2⟩, ⟨%f3, %hf3, H3⟩, ⟨%f7, %hf7, H7⟩, ⟨%f9, %hf9, H9⟩, ⟨%f11, %hf11, H11⟩, ⟨%f12, %hf12, H12⟩, ⟨%f13, %hf13, H13⟩, ⟨%f20, %hf20, H20⟩, ⟨%f21, %hf21, H21⟩, ⟨%f22, %hf22, H22⟩, ⟨%f15, %hf15, H15⟩, ⟨%f16, %hf16, H16⟩, ⟨%f17, %hf17, H17⟩, ⟨%f18, %hf18, H18⟩, ⟨%d19, %f19, -, H19⟩, ⟨%d14, %f14, -, H14⟩, Hk⟩
    obtain rfl := harg1.eq_unread hf1; obtain rfl := harg2.eq_unread hf2; obtain rfl := harg3.eq_unread hf3; obtain rfl := harg7.eq_unread hf7; obtain rfl := harg9.eq_unread hf9; obtain rfl := harg11.eq_unread hf11; obtain rfl := harg12.eq_unread hf12; obtain rfl := harg13.eq_unread hf13; obtain rfl := harg20.eq_unread hf20; obtain rfl := harg21.eq_unread hf21; obtain rfl := harg22.eq_unread hf22; obtain rfl := harg15.eq_unread hf15; obtain rfl := harg16.eq_unread hf16; obtain rfl := harg17.eq_unread hf17; obtain rfl := harg18.eq_unread hf18
    sl_exec (disch := first | sl_exact hE | sl_exact hO | sl_exact hF | sl_exact hN)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H7]
    · iexists _; isplitr; · ipureintro; exact harg7.read_unread _
      iexact H7
    isplitl [H9]
    · iexists _; isplitr; · ipureintro; exact harg9.read_unread _
      iexact H9
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H15]
    · iexact H15
    isplitl [H16]
    · iexact H16
    isplitl [H17]
    · iexact H17
    isplitl [H18]
    · iexact H18
    isplitl [H19]
    · iexists _, _; isplitr; swap; · iexact H19
      ipureintro; rfl
    iexists _; iexact H14

end Cert.Kernel2Ideal.Hand

end
-- ==== Proof.SwaSlots.lean ====
/- The rings' buffers cut into their slots and joined back. -/
module

public import proofs.«01_k».proof.Proof.SwaLoad
public import Idealize.ShloMosaic.Lib.Ring.FamCut

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- Equal propositions entail one another. -/
theorem entails_eq {P Q : sProp 𝕄} (e : P = Q) : P ⊢ Q := e ▸ .rfl

/-- Every slot of the KV ring lies inside its buffer. -/
theorem inbKV (b : Fin 2) : ∀ a, (![b.val, 0, 0] : Fin 3 → ℕ) a + S1x512x256.size a ≤ S2x512x256.size a := by
  intro a; have := b.isLt; fin_cases a
  · show b.val + 1 ≤ 2; omega
  · exact Nat.le_of_eq (Nat.zero_add _)
  · exact Nat.le_of_eq (Nat.zero_add _)
/-- The elements of slot `b`. -/
abbrev IKV (b : Fin 2) : Finset S2x512x256.Idx := (Rect.unit (s := S2x512x256) ![b.val, 0, 0] S1x512x256.size (inbKV b)).set
theorem IKV_disjoint : ∀ b b' : Fin 2, b ≠ b' → Disjoint (IKV b) (IKV b') := fun b b' h =>
  Ring.lead_disjoint (s := S2x512x256) (0 : Fin 3) 1 (fun j : Fin 2 => (![j.val, 0, 0] : Fin 3 → ℕ)) S1x512x256.size inbKV (fun j => by simp) rfl b b' h
theorem IKV_cover : (Finset.univ : Finset (Fin 2)).biUnion IKV = Finset.univ :=
  Ring.lead_cover (s := S2x512x256) (0 : Fin 3) 1 (fun j : Fin 2 => (![j.val, 0, 0] : Fin 3 → ℕ)) S1x512x256.size inbKV (fun j => by simp)
    (fun j a ha => by fin_cases a; exacts [absurd rfl ha, rfl, rfl]) rfl (fun a ha => by fin_cases a; exacts [absurd rfl ha, rfl, rfl]) rfl
theorem slotKV_set (b : ℕ) (hb : b < 2) (h) : (slotKV scM0_8 b h).view.set = IKV ⟨b, hb⟩ :=
  (Memref.set_view_squeeze _ _).trans (View.set_slice_whole _ _)
/-- A slot held at some contents, by its elements of the buffer. -/
theorem any_slotKV (c : Dev nD) (b : ℕ) (hb : b < 2) (h) :
    (anyAt c (slotKV scM0_8 b h) : sProp 𝕄) = iprop(∃ f, ((c : Thread nD τ).loc cc0_scoped0) ↦[IKV ⟨b, hb⟩]{fullShare} f) :=
  congrArg (fun S => (iprop(∃ f, ((c : Thread nD τ).loc cc0_scoped0) ↦[S]{fullShare} f) : sProp 𝕄)) (slotKV_set b hb h)
set_option maxHeartbeats 4000000 in
/-- The KV ring's slots are its buffer, cut along the leading axis. -/
theorem ringKV_eq (c : Dev nD) :
    (ringKV c scM0_8 : sProp 𝕄) = bigSep Finset.univ fun b : Fin 2 => iprop(∃ f, ((c : Thread nD τ).loc cc0_scoped0) ↦[IKV b]{fullShare} f) := by
  rw [bigSep_univ_eq_bigSepL [(0 : Fin 2), 1] (by decide) (by decide)]
  unfold ringKV
  rw [any_slotKV c 0 (by decide) inb_S2x512x256_S1x512x256_0_0_0, any_slotKV c 1 (by decide) inb_S2x512x256_S1x512x256_1_0_0]
  rfl
/-- The buffer owned at some contents splits into the ring's slots, -/
theorem ringKV_split (c : Dev nD) : (iprop(∃ d, owns (c : Thread nD τ) scM0_8 fullShare d) : sProp 𝕄) ⊢ ringKV c scM0_8 := by
  rw [ringKV_eq]
  simp only [owns_whole]
  iintro H
  ihave H2 := (Ring.fam_split_ex (Ix := Unit) (Name := ℕ) (U := Pipeline.UD sig nD τ) (Lvl := ℕ) (q := fullShare) (ℓ := (c : Thread nD τ).loc cc0_scoped0) IKV IKV_disjoint) $$ H
  icases H2 with ⟨H2, -⟩
  iexact H2
/-- and is joined back from them. -/
theorem ringKV_join (c : Dev nD) : (ringKV c scM0_8 : sProp 𝕄) ⊢ iprop(∃ d, owns (c : Thread nD τ) scM0_8 fullShare d) := by
  rw [ringKV_eq]
  simp only [owns_whole]
  iintro H
  ihave H2 := (Ring.pointsTo_blocks_join_exists (Ix := Unit) (Name := ℕ) (U := Pipeline.UD sig nD τ) (Lvl := ℕ) (q := fullShare) (ℓ := (c : Thread nD τ).loc cc0_scoped0) IKV IKV_disjoint IKV_cover (fun _ => Classical.arbitrary _)) $$ H
  icases H2 with ⟨%g, H2⟩
  iexists g
  iexact H2

/-- Every slot of the In ring lies inside its buffer. -/
theorem inbIn (b : Fin 16) : ∀ a, (![b.val, 0, 0] : Fin 3 → ℕ) a + S1x64x2048.size a ≤ S16x64x2048.size a := by
  intro a; have := b.isLt; fin_cases a
  · show b.val + 1 ≤ 16; omega
  · exact Nat.le_of_eq (Nat.zero_add _)
  · exact Nat.le_of_eq (Nat.zero_add _)
/-- The elements of slot `b`. -/
abbrev IIn (b : Fin 16) : Finset S16x64x2048.Idx := (Rect.unit (s := S16x64x2048) ![b.val, 0, 0] S1x64x2048.size (inbIn b)).set
theorem IIn_disjoint : ∀ b b' : Fin 16, b ≠ b' → Disjoint (IIn b) (IIn b') := fun b b' h =>
  Ring.lead_disjoint (s := S16x64x2048) (0 : Fin 3) 1 (fun j : Fin 16 => (![j.val, 0, 0] : Fin 3 → ℕ)) S1x64x2048.size inbIn (fun j => by simp) rfl b b' h
theorem IIn_cover : (Finset.univ : Finset (Fin 16)).biUnion IIn = Finset.univ :=
  Ring.lead_cover (s := S16x64x2048) (0 : Fin 3) 1 (fun j : Fin 16 => (![j.val, 0, 0] : Fin 3 → ℕ)) S1x64x2048.size inbIn (fun j => by simp)
    (fun j a ha => by fin_cases a; exacts [absurd rfl ha, rfl, rfl]) rfl (fun a ha => by fin_cases a; exacts [absurd rfl ha, rfl, rfl]) rfl
theorem slotIn_set (b : ℕ) (hb : b < 16) (h) : (slotIn scM0_9 b h).view.set = IIn ⟨b, hb⟩ :=
  (Memref.set_view_squeeze _ _).trans (View.set_slice_whole _ _)
/-- A slot held at some contents, by its elements of the buffer. -/
theorem any_slotIn (c : Dev nD) (b : ℕ) (hb : b < 16) (h) :
    (anyAt c (slotIn scM0_9 b h) : sProp 𝕄) = iprop(∃ f, ((c : Thread nD τ).loc cc0_scoped2) ↦[IIn ⟨b, hb⟩]{fullShare} f) :=
  congrArg (fun S => (iprop(∃ f, ((c : Thread nD τ).loc cc0_scoped2) ↦[S]{fullShare} f) : sProp 𝕄)) (slotIn_set b hb h)
set_option maxHeartbeats 4000000 in
/-- The In ring's slots are its buffer, cut along the leading axis. -/
theorem ringIn_eq (c : Dev nD) :
    (ringIn c scM0_9 : sProp 𝕄) = bigSep Finset.univ fun b : Fin 16 => iprop(∃ f, ((c : Thread nD τ).loc cc0_scoped2) ↦[IIn b]{fullShare} f) := by
  rw [bigSep_univ_eq_bigSepL [(0 : Fin 16), 1, 2, 3, 4, 5, 6, 7, 8, 9, 10, 11, 12, 13, 14, 15] (by decide) (by decide)]
  unfold ringIn
  rw [any_slotIn c 0 (by decide) inb_S16x64x2048_S1x64x2048_0_0_0, any_slotIn c 1 (by decide) inb_S16x64x2048_S1x64x2048_1_0_0, any_slotIn c 2 (by decide) inb_S16x64x2048_S1x64x2048_2_0_0, any_slotIn c 3 (by decide) inb_S16x64x2048_S1x64x2048_3_0_0, any_slotIn c 4 (by decide) inb_S16x64x2048_S1x64x2048_4_0_0, any_slotIn c 5 (by decide) inb_S16x64x2048_S1x64x2048_5_0_0, any_slotIn c 6 (by decide) inb_S16x64x2048_S1x64x2048_6_0_0, any_slotIn c 7 (by decide) inb_S16x64x2048_S1x64x2048_7_0_0, any_slotIn c 8 (by decide) inb_S16x64x2048_S1x64x2048_8_0_0, any_slotIn c 9 (by decide) inb_S16x64x2048_S1x64x2048_9_0_0, any_slotIn c 10 (by decide) inb_S16x64x2048_S1x64x2048_10_0_0, any_slotIn c 11 (by decide) inb_S16x64x2048_S1x64x2048_11_0_0, any_slotIn c 12 (by decide) inb_S16x64x2048_S1x64x2048_12_0_0, any_slotIn c 13 (by decide) inb_S16x64x2048_S1x64x2048_13_0_0, any_slotIn c 14 (by decide) inb_S16x64x2048_S1x64x2048_14_0_0, any_slotIn c 15 (by decide) inb_S16x64x2048_S1x64x2048_15_0_0]
  rfl
/-- The buffer owned at some contents splits into the ring's slots, -/
theorem ringIn_split (c : Dev nD) : (iprop(∃ d, owns (c : Thread nD τ) scM0_9 fullShare d) : sProp 𝕄) ⊢ ringIn c scM0_9 := by
  rw [ringIn_eq]
  simp only [owns_whole]
  iintro H
  ihave H2 := (Ring.fam_split_ex (Ix := Unit) (Name := ℕ) (U := Pipeline.UD sig nD τ) (Lvl := ℕ) (q := fullShare) (ℓ := (c : Thread nD τ).loc cc0_scoped2) IIn IIn_disjoint) $$ H
  icases H2 with ⟨H2, -⟩
  iexact H2
/-- and is joined back from them. -/
theorem ringIn_join (c : Dev nD) : (ringIn c scM0_9 : sProp 𝕄) ⊢ iprop(∃ d, owns (c : Thread nD τ) scM0_9 fullShare d) := by
  rw [ringIn_eq]
  simp only [owns_whole]
  iintro H
  ihave H2 := (Ring.pointsTo_blocks_join_exists (Ix := Unit) (Name := ℕ) (U := Pipeline.UD sig nD τ) (Lvl := ℕ) (q := fullShare) (ℓ := (c : Thread nD τ).loc cc0_scoped2) IIn IIn_disjoint IIn_cover (fun _ => Classical.arbitrary _)) $$ H
  icases H2 with ⟨%g, H2⟩
  iexists g
  iexact H2

/-- Every slot of the Out ring lies inside its buffer. -/
theorem inbOut (b : Fin 8) : ∀ a, (![b.val, 0, 0] : Fin 3 → ℕ) a + S1x128x1024.size a ≤ S8x128x1024.size a := by
  intro a; have := b.isLt; fin_cases a
  · show b.val + 1 ≤ 8; omega
  · exact Nat.le_of_eq (Nat.zero_add _)
  · exact Nat.le_of_eq (Nat.zero_add _)
/-- The elements of slot `b`. -/
abbrev IOut (b : Fin 8) : Finset S8x128x1024.Idx := (Rect.unit (s := S8x128x1024) ![b.val, 0, 0] S1x128x1024.size (inbOut b)).set
theorem IOut_disjoint : ∀ b b' : Fin 8, b ≠ b' → Disjoint (IOut b) (IOut b') := fun b b' h =>
  Ring.lead_disjoint (s := S8x128x1024) (0 : Fin 3) 1 (fun j : Fin 8 => (![j.val, 0, 0] : Fin 3 → ℕ)) S1x128x1024.size inbOut (fun j => by simp) rfl b b' h
theorem IOut_cover : (Finset.univ : Finset (Fin 8)).biUnion IOut = Finset.univ :=
  Ring.lead_cover (s := S8x128x1024) (0 : Fin 3) 1 (fun j : Fin 8 => (![j.val, 0, 0] : Fin 3 → ℕ)) S1x128x1024.size inbOut (fun j => by simp)
    (fun j a ha => by fin_cases a; exacts [absurd rfl ha, rfl, rfl]) rfl (fun a ha => by fin_cases a; exacts [absurd rfl ha, rfl, rfl]) rfl
theorem slotOut_set (b : ℕ) (hb : b < 8) (h) : (slotOut scM0_10 b h).view.set = IOut ⟨b, hb⟩ :=
  (Memref.set_view_squeeze _ _).trans (View.set_slice_whole _ _)
/-- A slot held at some contents, by its elements of the buffer. -/
theorem any_slotOut (c : Dev nD) (b : ℕ) (hb : b < 8) (h) :
    (anyAt c (slotOut scM0_10 b h) : sProp 𝕄) = iprop(∃ f, ((c : Thread nD τ).loc cc0_scoped4) ↦[IOut ⟨b, hb⟩]{fullShare} f) :=
  congrArg (fun S => (iprop(∃ f, ((c : Thread nD τ).loc cc0_scoped4) ↦[S]{fullShare} f) : sProp 𝕄)) (slotOut_set b hb h)
set_option maxHeartbeats 4000000 in
/-- The Out ring's slots are its buffer, cut along the leading axis. -/
theorem ringOut_eq (c : Dev nD) :
    (ringOut c scM0_10 : sProp 𝕄) = bigSep Finset.univ fun b : Fin 8 => iprop(∃ f, ((c : Thread nD τ).loc cc0_scoped4) ↦[IOut b]{fullShare} f) := by
  rw [bigSep_univ_eq_bigSepL [(0 : Fin 8), 1, 2, 3, 4, 5, 6, 7] (by decide) (by decide)]
  unfold ringOut
  rw [any_slotOut c 0 (by decide) inb_S8x128x1024_S1x128x1024_0_0_0, any_slotOut c 1 (by decide) inb_S8x128x1024_S1x128x1024_1_0_0, any_slotOut c 2 (by decide) inb_S8x128x1024_S1x128x1024_2_0_0, any_slotOut c 3 (by decide) inb_S8x128x1024_S1x128x1024_3_0_0, any_slotOut c 4 (by decide) inb_S8x128x1024_S1x128x1024_4_0_0, any_slotOut c 5 (by decide) inb_S8x128x1024_S1x128x1024_5_0_0, any_slotOut c 6 (by decide) inb_S8x128x1024_S1x128x1024_6_0_0, any_slotOut c 7 (by decide) inb_S8x128x1024_S1x128x1024_7_0_0]
  rfl
/-- The buffer owned at some contents splits into the ring's slots, -/
theorem ringOut_split (c : Dev nD) : (iprop(∃ d, owns (c : Thread nD τ) scM0_10 fullShare d) : sProp 𝕄) ⊢ ringOut c scM0_10 := by
  rw [ringOut_eq]
  simp only [owns_whole]
  iintro H
  ihave H2 := (Ring.fam_split_ex (Ix := Unit) (Name := ℕ) (U := Pipeline.UD sig nD τ) (Lvl := ℕ) (q := fullShare) (ℓ := (c : Thread nD τ).loc cc0_scoped4) IOut IOut_disjoint) $$ H
  icases H2 with ⟨H2, -⟩
  iexact H2
/-- and is joined back from them. -/
theorem ringOut_join (c : Dev nD) : (ringOut c scM0_10 : sProp 𝕄) ⊢ iprop(∃ d, owns (c : Thread nD τ) scM0_10 fullShare d) := by
  rw [ringOut_eq]
  simp only [owns_whole]
  iintro H
  ihave H2 := (Ring.pointsTo_blocks_join_exists (Ix := Unit) (Name := ℕ) (U := Pipeline.UD sig nD τ) (Lvl := ℕ) (q := fullShare) (ℓ := (c : Thread nD τ).loc cc0_scoped4) IOut IOut_disjoint IOut_cover (fun _ => Classical.arbitrary _)) $$ H
  icases H2 with ⟨%g, H2⟩
  iexists g
  iexact H2

end Cert.Kernel2Ideal.Hand

end
-- ==== Proof.SwaLaunch.lean ====
/- The attention kernel's run, assembled: the proof data of its pipeline, the body obligation at every grid point, and the frame. The data are
   stated for any property of the buffers carried from point to point and of the output blocks that the runs keep. -/
module

public import proofs.«01_k».proof.Proof.SwaRunZ
public import proofs.«01_k».proof.Proof.SwaRunF
public import proofs.«01_k».proof.Proof.SwaRunN
public import proofs.«01_k».proof.Proof.SwaRunO
public import proofs.«01_k».proof.Proof.SwaSlots
public import Idealize.ShloMosaic.Lib.Pipeline.DatRel

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The first grid point, the only one that loads the weights. -/
abbrev t0 : Fin cfg0.N := ⟨0, by have : cfg0.N = 65 := N_0; omega⟩

/-! ## What the scratch buffers and the output block hold -/

/-- The load phase's run at the first point. -/
abbrev loadAt (c : Dev nD) := loadRun (F := F) c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 3 t0) (iblk m c 4 t0) (V m c main_arg2) (V m c main_v32) (V m c main_v35)
/-- The key and value projection's weights as the load phase leaves them, -/
def w0 (c : Dev nD) : Vec F S1024x256 .bf16 := View.canon (loadAt m c).1
/-- the query and gate projection's -/
def w1 (c : Dev nD) : Vec F S1024x2048 .bf16 := View.canon (loadAt m c).2.1
/-- and the output projection's. -/
def w2 (c : Dev nD) : Vec F S1024x1024 .bf16 := View.canon (loadAt m c).2.2.val
theorem coverW0 (c : Dev nD) : ∀ y, ∃ p ∈ (loadAt m c).1, y ∈ p.1.set := View.cover_of_tiledL _ S512x256.size (by sl_kernel_rfl)
theorem coverW1 (c : Dev nD) : ∀ y, ∃ p ∈ (loadAt m c).2.1, y ∈ p.1.set := View.cover_of_tiledL _ S64x2048.size (by sl_kernel_rfl)
theorem coverW2 (c : Dev nD) : ∀ y, ∃ p ∈ (loadAt m c).2.2.val, y ∈ p.1.set := View.cover_of_tiledL _ S128x1024.size (by sl_kernel_rfl)

/-- A buffer with pieces written that cover it is owned at their canonical contents. -/
theorem owns_canon (c : Dev nD) {sp : Space} {S : Shape} {e : EltTy} (M : Memref sig .tc sp S e) (L : List (View.Piece (Elt F) S e)) (h : ∀ y, ∃ p ∈ L, y ∈ p.1.set) :
    (iprop(∃ f, M.view.loc (c : Thread nD τ) ↦[M.view.set]{fullShare} M.view.writes (Elt F) f L) : sProp 𝕄) ⊢ owns (c : Thread nD τ) M fullShare (View.canon L) := by
  iintro ⟨%f, H⟩
  unfold owns
  iexists _; isplitr; swap; · iexact H
  ipureintro; exact View.read_writes_eq_canon _ _ _ h

/-- A buffer with pieces written is owned at what it then reads. -/
theorem owns_writes (c : Dev nD) {sp : Space} {S : Shape} {e : EltTy} (M : Memref sig .tc sp S e) (f) (L : List (View.Piece (Elt F) S e)) :
    (iprop(M.view.loc (c : Thread nD τ) ↦[M.view.set]{fullShare} M.view.writes (Elt F) f L) : sProp 𝕄) ⊢ owns (c : Thread nD τ) M fullShare (M.view.read (Elt F) (M.view.writes (Elt F) f L)) := by
  iintro H
  unfold owns
  iexists _; isplitr; swap; · iexact H
  ipureintro; rfl

/-- The keys' buffer after pieces are written over `x`. -/
def after0 (x : Vec F S2x4x128x384 .bf16) (L : List (View.Piece (Elt F) S2x4x128x384 .bf16)) : Vec F S2x4x128x384 .bf16 :=
  scM0_0.view.read (Elt F) (scM0_0.view.writes (Elt F) ((Memref.isWhole_whole _).unread x) L)
/-- The values' buffer after pieces are written over `x`. -/
def after1 (x : Vec F S2x4x384x256 .bf16) (L : List (View.Piece (Elt F) S2x4x384x256 .bf16)) : Vec F S2x4x384x256 .bf16 :=
  scM0_1.view.read (Elt F) (scM0_1.view.writes (Elt F) ((Memref.isWhole_whole _).unread x) L)
/-- The queries' buffer after pieces are written over `x`. -/
def after2 (x : Vec F S2x256x1024 .bf16) (L : List (View.Piece (Elt F) S2x256x1024 .bf16)) : Vec F S2x256x1024 .bf16 :=
  scM0_2.view.read (Elt F) (scM0_2.view.writes (Elt F) ((Memref.isWhole_whole _).unread x) L)
/-- The gate' buffer after pieces are written over `x`. -/
def after3 (x : Vec F S2x256x1024 .f32) (L : List (View.Piece (Elt F) S2x256x1024 .f32)) : Vec F S2x256x1024 .f32 :=
  scM0_3.view.read (Elt F) (scM0_3.view.writes (Elt F) ((Memref.isWhole_whole _).unread x) L)

/-- The run at the first point, -/
abbrev zAt (c : Dev nD) (x15 : Vec F S2x4x128x384 .bf16) (x16 : Vec F S2x4x384x256 .bf16) (x17 : Vec F S2x256x1024 .bf16) (x18 : Vec F S2x256x1024 .f32) := runZ (F := F) c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcondE t0).mpr rfl) (fun h => (hcondO t0).mp h rfl) ((hcondZ t0).mpr rfl) ((hcondF t0).mpr rfl) (fun h => (hcondN t0).mp h rfl) (iblk m c 0 t0) (iblk m c 1 t0) (iblk m c 2 t0) (iblk m c 5 t0) (iblk m c 6 t0) (iblk m c 7 t0) (iblk m c 8 t0) (iblk m c 9 t0) (w0 m c) (w1 m c) (w2 m c) x15 x16 x17 x18
/-- at the first point of a later sequence, -/
abbrev fAt (c : Dev nD) (t : Fin cfg0.N) (h0 : ¬t.val = 0) (hF : t.val % 16 = 0) (x15 : Vec F S2x4x128x384 .bf16) (x16 : Vec F S2x4x384x256 .bf16) (x17 : Vec F S2x256x1024 .bf16) (x18 : Vec F S2x256x1024 .f32) := runF (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcondE t).mpr (by omega)) (fun h => (hcondO t).mp h (by omega)) (fun h => h0 ((hcondZ t).mp h)) ((hcondF t).mpr hF) (fun h => (hcondN t).mp h hF) (iblk m c 0 t) (iblk m c 1 t) (iblk m c 2 t) (iblk m c 5 t) (iblk m c 6 t) (iblk m c 7 t) (iblk m c 8 t) (iblk m c 9 t) (w0 m c) (w1 m c) (w2 m c) x15 x16 x17 x18
/-- at another even point, -/
abbrev nAt (c : Dev nD) (t : Fin cfg0.N) (hE : t.val % 2 = 0) (hF : ¬t.val % 16 = 0) (x15 : Vec F S2x4x128x384 .bf16) (x16 : Vec F S2x4x384x256 .bf16) (x17 : Vec F S2x256x1024 .bf16) (x18 : Vec F S2x256x1024 .f32) := runN (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcondE t).mpr hE) (fun h => (hcondO t).mp h hE) (fun h => hF (by rw [(hcondZ t).mp h])) (fun h => hF ((hcondF t).mp h)) ((hcondN t).mpr hF) (iblk m c 0 t) (iblk m c 1 t) (iblk m c 2 t) (iblk m c 5 t) (iblk m c 6 t) (iblk m c 7 t) (iblk m c 8 t) (iblk m c 9 t) (w0 m c) (w1 m c) (w2 m c) x15 x16 x17 x18
/-- and at an odd point. -/
abbrev oAt (c : Dev nD) (t : Fin cfg0.N) (hO : ¬t.val % 2 = 0) (x15 : Vec F S2x4x128x384 .bf16) (x16 : Vec F S2x4x384x256 .bf16) (x17 : Vec F S2x256x1024 .bf16) (x18 : Vec F S2x256x1024 .f32) := runO (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => hO ((hcondE t).mp h)) ((hcondO t).mpr hO) (fun h => hO (by have := (hcondF t).mp h; omega)) ((hcondN t).mpr (fun h => hO (by omega))) (iblk m c 0 t) (iblk m c 1 t) (iblk m c 2 t) (iblk m c 5 t) (iblk m c 6 t) (iblk m c 7 t) (iblk m c 8 t) (iblk m c 9 t) (w0 m c) (w1 m c) (w2 m c) x15 x16 x17 x18

theorem coverZ (c : Dev nD) (x15 : Vec F S2x4x128x384 .bf16) (x16 : Vec F S2x4x384x256 .bf16) (x17 : Vec F S2x256x1024 .bf16) (x18 : Vec F S2x256x1024 .f32) : ∀ y, ∃ p ∈ (zAt m c x15 x16 x17 x18).1, y ∈ p.1.set := View.cover_of_tiledL _ S256x1024.size (by sl_kernel_rfl)
theorem coverF (c : Dev nD) (t : Fin cfg0.N) (h0 : ¬t.val = 0) (hF : t.val % 16 = 0) (x15 : Vec F S2x4x128x384 .bf16) (x16 : Vec F S2x4x384x256 .bf16) (x17 : Vec F S2x256x1024 .bf16) (x18 : Vec F S2x256x1024 .f32) : ∀ y, ∃ p ∈ (fAt m c t h0 hF x15 x16 x17 x18).1, y ∈ p.1.set := View.cover_of_tiledL _ S256x1024.size (by sl_kernel_rfl)
theorem coverN (c : Dev nD) (t : Fin cfg0.N) (hE : t.val % 2 = 0) (hF : ¬t.val % 16 = 0) (x15 : Vec F S2x4x128x384 .bf16) (x16 : Vec F S2x4x384x256 .bf16) (x17 : Vec F S2x256x1024 .bf16) (x18 : Vec F S2x256x1024 .f32) : ∀ y, ∃ p ∈ (nAt m c t hE hF x15 x16 x17 x18).1, y ∈ p.1.set := View.cover_of_tiledL _ S256x1024.size (by sl_kernel_rfl)
theorem coverO (c : Dev nD) (t : Fin cfg0.N) (hO : ¬t.val % 2 = 0) (x15 : Vec F S2x4x128x384 .bf16) (x16 : Vec F S2x4x384x256 .bf16) (x17 : Vec F S2x256x1024 .bf16) (x18 : Vec F S2x256x1024 .f32) : ∀ y, ∃ p ∈ (oAt m c t hO x15 x16 x17 x18).1, y ∈ p.1.set := View.cover_of_tiledL _ S256x1024.size (by sl_kernel_rfl)

/-- What is said of the four buffers carried from point to point (`Good`, of the points already run) and of each point's output block (`Out`) is kept by
    every run. -/
structure Keeps (Good : Dev nD → ℕ → Vec F S2x4x128x384 .bf16 → Vec F S2x4x384x256 .bf16 → Vec F S2x256x1024 .bf16 → Vec F S2x256x1024 .f32 → Prop) (Out : Dev nD → Fin cfg0.N → Vec F S256x1024 .f32 → Prop) : Prop where
  first : ∀ c x15 x16 x17 x18, Good c 1 (after0 x15 (zAt m c x15 x16 x17 x18).2.1) (after1 x16 (zAt m c x15 x16 x17 x18).2.2.1) (after2 x17 (zAt m c x15 x16 x17 x18).2.2.2.1) (after3 x18 (zAt m c x15 x16 x17 x18).2.2.2.2.val) ∧ Out c t0 (View.canon (zAt m c x15 x16 x17 x18).1)
  seq : ∀ c t h0 hF x15 x16 x17 x18, Good c t.val x15 x16 x17 x18 → Good c (t.val + 1) (after0 x15 (fAt m c t h0 hF x15 x16 x17 x18).2.1) (after1 x16 (fAt m c t h0 hF x15 x16 x17 x18).2.2.1) (after2 x17 (fAt m c t h0 hF x15 x16 x17 x18).2.2.2.1) (after3 x18 (fAt m c t h0 hF x15 x16 x17 x18).2.2.2.2.val) ∧ Out c t (View.canon (fAt m c t h0 hF x15 x16 x17 x18).1)
  even : ∀ c t hE hF x15 x16 x17 x18, Good c t.val x15 x16 x17 x18 → Good c (t.val + 1) (after0 x15 (nAt m c t hE hF x15 x16 x17 x18).2.1) (after1 x16 (nAt m c t hE hF x15 x16 x17 x18).2.2.1) (after2 x17 (nAt m c t hE hF x15 x16 x17 x18).2.2.2.1) (after3 x18 (nAt m c t hE hF x15 x16 x17 x18).2.2.2.2.val) ∧ Out c t (View.canon (nAt m c t hE hF x15 x16 x17 x18).1)
  odd : ∀ c t hO x15 x16 x17 x18, Good c t.val x15 x16 x17 x18 → Good c (t.val + 1) (after0 x15 (oAt m c t hO x15 x16 x17 x18).2.1) (after1 x16 (oAt m c t hO x15 x16 x17 x18).2.2.1) (after2 x17 (oAt m c t hO x15 x16 x17 x18).2.2.2.1) (after3 x18 (oAt m c t hO x15 x16 x17 x18).2.2.2.2.val) ∧ Out c t (View.canon (oAt m c t hO x15 x16 x17 x18).1)

variable (Good : Dev nD → ℕ → Vec F S2x4x128x384 .bf16 → Vec F S2x4x384x256 .bf16 → Vec F S2x256x1024 .bf16 → Vec F S2x256x1024 .f32 → Prop) (Out : Dev nD → Fin cfg0.N → Vec F S256x1024 .f32 → Prop)

/-! ## The invariant and the proof data -/

/-- Before the first point the launch's invariant; afterwards the same with the weight scratch buffers at what the load phase left and the four carried
    buffers at contents that `Good` holds of. -/
def PhiS (c : Dev nD) : (n : ℕ) → n ≤ cfg0.N → sProp 𝕄
  | 0, _ => Pipeline.ΦD osem0 spec0 H0 (V m) c
  | n + 1, hn => iprop(iprop((∃ x15 x16 x17 x18, ⌜Good c (n + 1) x15 x16 x17 x18⌝ ∗ owns (c : Thread nD τ) scM0_0 fullShare x15 ∗ owns (c : Thread nD τ) scM0_1 fullShare x16 ∗ owns (c : Thread nD τ) scM0_2 fullShare x17 ∗ owns (c : Thread nD τ) scM0_3 fullShare x18) ∗ (∃ d, owns (c : Thread nD τ) scM0_4 fullShare d) ∗ owns (c : Thread nD τ) scM0_5 fullShare (w0 m c) ∗ owns (c : Thread nD τ) scM0_6 fullShare (w1 m c) ∗ owns (c : Thread nD τ) scM0_7 fullShare (w2 m c) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ sems c ∗ hbs m c)
theorem PhiS_zero (c : Dev nD) (n : ℕ) (h : n ≤ cfg0.N) (hz : n = 0) : PhiS m Good c n h = Pipeline.ΦD osem0 spec0 H0 (V m) c := by
  subst hz; rfl
theorem PhiS_pos (c : Dev nD) (n : ℕ) (h : n ≤ cfg0.N) (hz : n ≠ 0) :
    PhiS m Good c n h = iprop(iprop((∃ x15 x16 x17 x18, ⌜Good c n x15 x16 x17 x18⌝ ∗ owns (c : Thread nD τ) scM0_0 fullShare x15 ∗ owns (c : Thread nD τ) scM0_1 fullShare x16 ∗ owns (c : Thread nD τ) scM0_2 fullShare x17 ∗ owns (c : Thread nD τ) scM0_3 fullShare x18) ∗ (∃ d, owns (c : Thread nD τ) scM0_4 fullShare d) ∗ owns (c : Thread nD τ) scM0_5 fullShare (w0 m c) ∗ owns (c : Thread nD τ) scM0_6 fullShare (w1 m c) ∗ owns (c : Thread nD τ) scM0_7 fullShare (w2 m c) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ sems c ∗ hbs m c) := by
  cases n with
  | zero => exact absurd rfl hz
  | succ n => rfl

/-- The proof data of the pipeline on core `c`: the arrays as the region finds them, after the body at a point each input's buffer at its block; of the
    output's block the data say nothing, the relation below does. -/
def dats (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := PhiS m Good c t.val (Nat.le_of_lt_succ t.isLt)
  q w := Pipeline.shareOf spec0 w
  owed _ := 0

/-- The output's window is the one held to a relation. -/
def marked (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
/-- What the body leaves in the output's window meets `Out`. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun X => Out c t X

theorem A_eq (c : Dev nD) (w : Fin cfg0.W) : (dats m Good c).A w = V m c (Pipeline.arrRef spec0 w) := by
  dsimp only [dats]
theorem PhiS_castSucc (c : Dev nD) (t : Fin cfg0.N) :
    (dats m Good c).Φ t.castSucc = PhiS m Good c t.val (Nat.le_of_lt t.isLt) := by
  dsimp only [dats]; exact Pipeline.Dat.Φ_castSucc (PhiS m Good c) t
theorem after0_0 (c : Dev nD) (t : Fin cfg0.N) : (dats m Good c).after 0 t = iblk m c 0 t := by dsimp only [dats]
theorem after0_1 (c : Dev nD) (t : Fin cfg0.N) : (dats m Good c).after 1 t = iblk m c 1 t := by dsimp only [dats]
theorem after0_2 (c : Dev nD) (t : Fin cfg0.N) : (dats m Good c).after 2 t = iblk m c 2 t := by dsimp only [dats]
theorem after0_3 (c : Dev nD) (t : Fin cfg0.N) : (dats m Good c).after 3 t = iblk m c 3 t := by dsimp only [dats]
theorem after0_4 (c : Dev nD) (t : Fin cfg0.N) : (dats m Good c).after 4 t = iblk m c 4 t := by dsimp only [dats]
theorem after0_5 (c : Dev nD) (t : Fin cfg0.N) : (dats m Good c).after 5 t = iblk m c 5 t := by dsimp only [dats]
theorem after0_6 (c : Dev nD) (t : Fin cfg0.N) : (dats m Good c).after 6 t = iblk m c 6 t := by dsimp only [dats]
theorem after0_7 (c : Dev nD) (t : Fin cfg0.N) : (dats m Good c).after 7 t = iblk m c 7 t := by dsimp only [dats]
theorem after0_8 (c : Dev nD) (t : Fin cfg0.N) : (dats m Good c).after 8 t = iblk m c 8 t := by dsimp only [dats]
theorem after0_9 (c : Dev nD) (t : Fin cfg0.N) : (dats m Good c).after 9 t = iblk m c 9 t := by dsimp only [dats]
theorem before0_0 (c : Dev nD) (t : Fin cfg0.N) (d) : (dats m Good c).before 0 t d = iblk m c 0 t :=
  ((dats m Good c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m Good c).before 1 t d = iblk m c 1 t :=
  ((dats m Good c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m Good c).before 2 t d = iblk m c 2 t :=
  ((dats m Good c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m Good c).before 3 t d = iblk m c 3 t :=
  ((dats m Good c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m Good c).before 4 t d = iblk m c 4 t :=
  ((dats m Good c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m Good c).before 5 t d = iblk m c 5 t :=
  ((dats m Good c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m Good c).before 6 t d = iblk m c 6 t :=
  ((dats m Good c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m Good c).before 7 t d = iblk m c 7 t :=
  ((dats m Good c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m Good c).before 8 t d = iblk m c 8 t :=
  ((dats m Good c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m Good c).before 9 t d = iblk m c 9 t :=
  ((dats m Good c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m Good c).Φ t.castSucc ∗ (dats m Good c).owesAt () t.castSucc
    ∗ (∃ d, owns (c : Thread nD τ) (ms0_0 t) fullShare ((dats m Good c).before 0 t d)) ∗ (∃ d, owns (c : Thread nD τ) (ms0_1 t) fullShare ((dats m Good c).before 1 t d)) ∗ (∃ d, owns (c : Thread nD τ) (ms0_2 t) fullShare ((dats m Good c).before 2 t d)) ∗ (∃ d, owns (c : Thread nD τ) (ms0_3 t) fullShare ((dats m Good c).before 3 t d)) ∗ (∃ d, owns (c : Thread nD τ) (ms0_4 t) fullShare ((dats m Good c).before 4 t d)) ∗ (∃ d, owns (c : Thread nD τ) (ms0_5 t) fullShare ((dats m Good c).before 5 t d)) ∗ (∃ d, owns (c : Thread nD τ) (ms0_6 t) fullShare ((dats m Good c).before 6 t d)) ∗ (∃ d, owns (c : Thread nD τ) (ms0_7 t) fullShare ((dats m Good c).before 7 t d)) ∗ (∃ d, owns (c : Thread nD τ) (ms0_8 t) fullShare ((dats m Good c).before 8 t d)) ∗ (∃ d, owns (c : Thread nD τ) (ms0_9 t) fullShare ((dats m Good c).before 9 t d))
    ∗ (∃ Y, ⌜((dats m Good c).toRRel marked (Rl Out c)).Finds 10 t Y⌝ ∗ owns (c : Thread nD τ) (ms0_10 t) fullShare Y))
/-- and what it returns. -/
def bodyPost (c : Dev nD) (t : Fin cfg0.N) : sProp 𝕄 :=
  iprop((dats m Good c).Φ t.succ ∗ (dats m Good c).owesAt () t.succ
    ∗ owns (c : Thread nD τ) (ms0_0 t) fullShare ((dats m Good c).after 0 t) ∗ owns (c : Thread nD τ) (ms0_1 t) fullShare ((dats m Good c).after 1 t) ∗ owns (c : Thread nD τ) (ms0_2 t) fullShare ((dats m Good c).after 2 t) ∗ owns (c : Thread nD τ) (ms0_3 t) fullShare ((dats m Good c).after 3 t) ∗ owns (c : Thread nD τ) (ms0_4 t) fullShare ((dats m Good c).after 4 t) ∗ owns (c : Thread nD τ) (ms0_5 t) fullShare ((dats m Good c).after 5 t) ∗ owns (c : Thread nD τ) (ms0_6 t) fullShare ((dats m Good c).after 6 t) ∗ owns (c : Thread nD τ) (ms0_7 t) fullShare ((dats m Good c).after 7 t) ∗ owns (c : Thread nD τ) (ms0_8 t) fullShare ((dats m Good c).after 8 t) ∗ owns (c : Thread nD τ) (ms0_9 t) fullShare ((dats m Good c).after 9 t)
    ∗ (∃ X, ⌜Rl Out c 10 t X⌝ ∗ owns (c : Thread nD τ) (ms0_10 t) fullShare X))

/-- What each of the four runs proves, for the pieces it finds. -/
def RunSpec (c : Dev nD) (t : Fin cfg0.N) (x15 : Vec F S2x4x128x384 .bf16) (x16 : Vec F S2x4x384x256 .bf16) (x17 : Vec F S2x256x1024 .bf16) (x18 : Vec F S2x256x1024 .f32) (L0 : List (View.Piece (Elt F) S256x1024 .f32)) (L1 : List (View.Piece (Elt F) S2x4x128x384 .bf16)) (L2 : List (View.Piece (Elt F) S2x4x384x256 .bf16)) (L3 : List (View.Piece (Elt F) S2x256x1024 .bf16)) (L4 : List (View.Piece (Elt F) S2x256x1024 .f32)) : Prop :=
  ∀ K : PUnit → sProp 𝕄,
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) scM0_5 fullShare (w0 m c) ∗ owns (c : Thread nD τ) scM0_6 fullShare (w1 m c) ∗ owns (c : Thread nD τ) scM0_7 fullShare (w2 m c) ∗ owns (c : Thread nD τ) scM0_0 fullShare x15 ∗ owns (c : Thread nD τ) scM0_1 fullShare x16 ∗ owns (c : Thread nD τ) scM0_2 fullShare x17 ∗ owns (c : Thread nD τ) scM0_3 fullShare x18 ∗ (∃ d, owns (c : Thread nD τ) scM0_4 fullShare d) ∗ (∃ d, owns (c : Thread nD τ) (ms0_10 t) fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) scM0_5 fullShare (w0 m c) ∗ owns (c : Thread nD τ) scM0_6 fullShare (w1 m c) ∗ owns (c : Thread nD τ) scM0_7 fullShare (w2 m c) ∗ (scM0_0.view.loc (c : Thread nD τ) ↦[scM0_0.view.set]{fullShare} scM0_0.view.writes (Elt F) ((Memref.isWhole_whole _).unread x15) L1) ∗ (scM0_1.view.loc (c : Thread nD τ) ↦[scM0_1.view.set]{fullShare} scM0_1.view.writes (Elt F) ((Memref.isWhole_whole _).unread x16) L2) ∗ (scM0_2.view.loc (c : Thread nD τ) ↦[scM0_2.view.set]{fullShare} scM0_2.view.writes (Elt F) ((Memref.isWhole_whole _).unread x17) L3) ∗ (scM0_3.view.loc (c : Thread nD τ) ↦[scM0_3.view.set]{fullShare} scM0_3.view.writes (Elt F) ((Memref.isWhole_whole _).unread x18) L4) ∗ (∃ d, owns (c : Thread nD τ) scM0_4 fullShare d) ∗ (∃ f, (ms0_10 t).view.loc (c : Thread nD τ) ↦[(ms0_10 t).view.set]{fullShare} (ms0_10 t).view.writes (Elt F) f L0)) -∗ K ⟨⟩))
      ⊢ wp frame (wpE (defs₀ (F := F)) Variants.none c none) Set.univ (restProg (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _)) K

set_option maxHeartbeats 4000000 in
/-- A point's run, the four carried buffers taken at contents that `Good` holds of and given back so, the output block at contents that meet `Out`. -/
theorem compute_triple (c : Dev nD) (t : Fin cfg0.N) (n : ℕ) (x15 : Vec F S2x4x128x384 .bf16) (x16 : Vec F S2x4x384x256 .bf16) (x17 : Vec F S2x256x1024 .bf16) (x18 : Vec F S2x256x1024 .f32) (L0 : List (View.Piece (Elt F) S256x1024 .f32)) (L1 : List (View.Piece (Elt F) S2x4x128x384 .bf16)) (L2 : List (View.Piece (Elt F) S2x4x384x256 .bf16)) (L3 : List (View.Piece (Elt F) S2x256x1024 .bf16)) (L4 : List (View.Piece (Elt F) S2x256x1024 .f32)) (hrun : RunSpec m c t x15 x16 x17 x18 L0 L1 L2 L3 L4)
    (hcov : ∀ y, ∃ p ∈ L0, y ∈ p.1.set) (hgood : Good c n (after0 x15 L1) (after1 x16 L2) (after2 x17 L3) (after3 x18 L4)) (hout : Out c t (View.canon L0)) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) scM0_5 fullShare (w0 m c) ∗ owns (c : Thread nD τ) scM0_6 fullShare (w1 m c) ∗ owns (c : Thread nD τ) scM0_7 fullShare (w2 m c) ∗ owns (c : Thread nD τ) scM0_0 fullShare x15 ∗ owns (c : Thread nD τ) scM0_1 fullShare x16 ∗ owns (c : Thread nD τ) scM0_2 fullShare x17 ∗ owns (c : Thread nD τ) scM0_3 fullShare x18 ∗ (∃ d, owns (c : Thread nD τ) scM0_4 fullShare d) ∗ (∃ d, owns (c : Thread nD τ) (ms0_10 t) fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) scM0_5 fullShare (w0 m c) ∗ owns (c : Thread nD τ) scM0_6 fullShare (w1 m c) ∗ owns (c : Thread nD τ) scM0_7 fullShare (w2 m c) ∗ (∃ x15 x16 x17 x18, ⌜Good c n x15 x16 x17 x18⌝ ∗ owns (c : Thread nD τ) scM0_0 fullShare x15 ∗ owns (c : Thread nD τ) scM0_1 fullShare x16 ∗ owns (c : Thread nD τ) scM0_2 fullShare x17 ∗ owns (c : Thread nD τ) scM0_3 fullShare x18) ∗ (∃ d, owns (c : Thread nD τ) scM0_4 fullShare d) ∗ (∃ X, ⌜Rl Out c 10 t X⌝ ∗ owns (c : Thread nD τ) (ms0_10 t) fullShare X)) -∗ K ⟨⟩))
      ⊢ wp frame (wpE (defs₀ (F := F)) Variants.none c none) Set.univ (restProg (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _)) K := by
  iintro ⟨H0, H1, H2, H5, H6, H7, H8, H9, HS5, HS6, HS7, HS0, HS1, HS2, HS3, HS4, HO, Hk⟩
  iapply (hrun K)
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [HS5]; · iexact HS5
  isplitl [HS6]; · iexact HS6
  isplitl [HS7]; · iexact HS7
  isplitl [HS0]; · iexact HS0
  isplitl [HS1]; · iexact HS1
  isplitl [HS2]; · iexact HS2
  isplitl [HS3]; · iexact HS3
  isplitl [HS4]; · iexact HS4
  isplitl [HO]; · iexact HO
  iintro ⟨H0, H1, H2, H5, H6, H7, H8, H9, HS5, HS6, HS7, HS0, HS1, HS2, HS3, HS4, HO⟩
  iapply Hk
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [HS5]; · iexact HS5
  isplitl [HS6]; · iexact HS6
  isplitl [HS7]; · iexact HS7
  isplitl [HS0 HS1 HS2 HS3]
  · iexists (after0 x15 L1), (after1 x16 L2), (after2 x17 L3), (after3 x18 L4)
    isplitr; · ipureintro; exact hgood
    isplitl [HS0]; · iapply (owns_writes c scM0_0 _ L1); iexact HS0
    isplitl [HS1]; · iapply (owns_writes c scM0_1 _ L2); iexact HS1
    isplitl [HS2]; · iapply (owns_writes c scM0_2 _ L3); iexact HS2
    iapply (owns_writes c scM0_3 _ L4); iexact HS3
  isplitl [HS4]; · iexact HS4
  iexists (View.canon L0)
  isplitr; · ipureintro; exact hout
  iapply (owns_canon c (ms0_10 t) L0 hcov); iexact HO

set_option maxHeartbeats 4000000 in
/-- The load phase at the first point: the rings' buffers are cut into their slots, the run is applied, the slots are joined back, and the three weight
    buffers are owned at `w0`, `w1`, `w2`. -/
theorem load_triple (c : Dev nD) (W : Waits sig Unit) (K : PUnit → sProp 𝕄) :
    iprop(owns (c : Thread nD τ) (ms0_3 t0) fullShare (iblk m c 3 t0) ∗ owns (c : Thread nD τ) (ms0_4 t0) fullShare (iblk m c 4 t0) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ sems c ∗ hbPt0 c hbM0_0 (V m c main_arg2) ∗ hbPt0 c hbM0_1 (V m c main_v32) ∗ hbPt0 c hbM0_2 (V m c main_v35) ∗ owes (c : Thread nD τ) 0 W
        ∗ (iprop(owns (c : Thread nD τ) (ms0_3 t0) fullShare (iblk m c 3 t0) ∗ owns (c : Thread nD τ) (ms0_4 t0) fullShare (iblk m c 4 t0) ∗ owns (c : Thread nD τ) scM0_5 fullShare (w0 m c) ∗ owns (c : Thread nD τ) scM0_6 fullShare (w1 m c) ∗ owns (c : Thread nD τ) scM0_7 fullShare (w2 m c) ∗ (∃ d, owns (c : Thread nD τ) scM0_8 fullShare d) ∗ (∃ d, owns (c : Thread nD τ) scM0_9 fullShare d) ∗ (∃ d, owns (c : Thread nD τ) scM0_10 fullShare d) ∗ sems c ∗ hbPt0 c hbM0_0 (V m c main_arg2) ∗ hbPt0 c hbM0_1 (V m c main_v32) ∗ hbPt0 c hbM0_2 (V m c main_v35) ∗ (∃ W', owes (c : Thread nD τ) 0 W')) -∗ K ⟨⟩))
      ⊢ wp frame (wpE (defs₀ (F := F)) Variants.none c none) Set.univ (loadProg (F := F) (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _)) K := by
  iintro ⟨H3, H4, HS5, HS6, HS7, HS8, HS9, HS10, Hq, Hh0, Hh1, Hh2, HW, Hk⟩
  iapply ((loadAt m c).2.2.property W K)
  isplitl [H3]; · iexact H3
  isplitl [H4]; · iexact H4
  isplitl [HS5]; · iexact HS5
  isplitl [HS6]; · iexact HS6
  isplitl [HS7]; · iexact HS7
  isplitl [HS8]; · iapply (ringKV_split c); iexact HS8
  isplitl [HS9]; · iapply (ringIn_split c); iexact HS9
  isplitl [HS10]; · iapply (ringOut_split c); iexact HS10
  isplitl [Hq]; · iexact Hq
  isplitl [Hh0]; · iexact Hh0
  isplitl [Hh1]; · iexact Hh1
  isplitl [Hh2]; · iexact Hh2
  isplitl [HW]; · iexact HW
  iintro ⟨H3, H4, HS5, HS6, HS7, HS8, HS9, HS10, Hq, Hh0, Hh1, Hh2, HW⟩
  iapply Hk
  isplitl [H3]; · iexact H3
  isplitl [H4]; · iexact H4
  isplitl [HS5]; · iapply (owns_canon c scM0_5 (loadAt m c).1 (coverW0 m c)); iexact HS5
  isplitl [HS6]; · iapply (owns_canon c scM0_6 (loadAt m c).2.1 (coverW1 m c)); iexact HS6
  isplitl [HS7]; · iapply (owns_canon c scM0_7 (loadAt m c).2.2.val (coverW2 m c)); iexact HS7
  isplitl [HS8]; · iapply (ringKV_join c); iexact HS8
  isplitl [HS9]; · iapply (ringIn_join c); iexact HS9
  isplitl [HS10]; · iapply (ringOut_join c); iexact HS10
  isplitl [Hq]; · iexact Hq
  isplitl [Hh0]; · iexact Hh0
  isplitl [Hh1]; · iexact Hh1
  isplitl [Hh2]; · iexact Hh2
  iexact HW

set_option maxHeartbeats 4000000 in
/-- The body at the first point. -/
theorem sound_first (hk : Keeps m Good Out) (c : Dev nD) (t : Fin cfg0.N) (h0 : t.val = 0) :
    bodyPre m Good Out c t ⊢ wp frame (wpE (defs₀ (F := F)) Variants.none c none) Set.univ (bodyAt0 t) (fun _ => bodyPost m Good Out c t) := by
  obtain rfl : t = t0 := Fin.ext h0
  unfold bodyPre bodyPost bodyAt0
  simp only [before0_0, before0_1, before0_2, before0_3, before0_4, before0_5, before0_6, before0_7, before0_8, before0_9]
  rw [show (dats m Good c).Φ t0.succ = PhiS m Good c (t0.val + 1) t0.isLt from rfl, PhiS_pos m Good c (t0.val + 1) t0.isLt (Nat.succ_ne_zero _),
    after0_0, after0_1, after0_2, after0_3, after0_4, after0_5, after0_6, after0_7, after0_8, after0_9]
  unfold Dat.owesAt Pipeline.owesWithin
  rw [show (dats m Good c).owed t0.castSucc = 0 from rfl, show (dats m Good c).owed t0.succ = 0 from rfl]
  rw [PhiS_castSucc, PhiS_zero m Good c _ _ rfl, PhiD0_eq, body_load (hc := (hcondZ t0).mpr rfl)]
  iintro ⟨⟨⟨⟨%y0, HS0⟩, ⟨%y1, HS1⟩, ⟨%y2, HS2⟩, ⟨%y3, HS3⟩, HS4, HS5, HS6, HS7, HS8, HS9, HS10⟩, Hg, Hq, Hh0, Hh1, Hh2⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, -, H10⟩⟩
  simp only [wp_bind]
  iapply (load_triple m c W _)
  isplitl [H3]; · iexact H3
  isplitl [H4]; · iexact H4
  isplitl [HS5]; · iexact HS5
  isplitl [HS6]; · iexact HS6
  isplitl [HS7]; · iexact HS7
  isplitl [HS8]; · iexact HS8
  isplitl [HS9]; · iexact HS9
  isplitl [HS10]; · iexact HS10
  isplitl [Hq]; · unfold sems; iexact Hq
  isplitl [Hh0]; · iexact Hh0
  isplitl [Hh1]; · iexact Hh1
  isplitl [Hh2]; · iexact Hh2
  isplitl [HW]; · iexact HW
  iintro ⟨H3, H4, HS5, HS6, HS7, HS8, HS9, HS10, Hq, Hh0, Hh1, Hh2, HW⟩
  iapply (compute_triple m Good Out c t0 1 y0 y1 y2 y3 _ _ _ _ _ (fun K => (zAt m c y0 y1 y2 y3).2.2.2.2.property K) (coverZ m c y0 y1 y2 y3) (hk.first c y0 y1 y2 y3).1 (hk.first c y0 y1 y2 y3).2 _)
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [HS5]; · iexact HS5
  isplitl [HS6]; · iexact HS6
  isplitl [HS7]; · iexact HS7
  isplitl [HS0]; · iexact HS0
  isplitl [HS1]; · iexact HS1
  isplitl [HS2]; · iexact HS2
  isplitl [HS3]; · iexact HS3
  isplitl [HS4]; · iexact HS4
  isplitl [H10]; · iexists _; iexact H10
  iintro ⟨H0, H1, H2, H5, H6, H7, H8, H9, HS5, HS6, HS7, HX, HS4, H10⟩
  isplitl [HX HS4 HS5 HS6 HS7 HS8 HS9 HS10 Hg Hq Hh0 Hh1 Hh2]
  · isplitl [HX HS4 HS5 HS6 HS7 HS8 HS9 HS10]
    · isplitl [HX]; · iexact HX
      isplitl [HS4]; · iexact HS4
      isplitl [HS5]; · iexact HS5
      isplitl [HS6]; · iexact HS6
      isplitl [HS7]; · iexact HS7
      isplitl [HS8]; · iexact HS8
      isplitl [HS9]; · iexact HS9
      iexact HS10
    isplitl [Hg]; · iexact Hg
    isplitl [Hq]; · iexact Hq
    isplitl [Hh0]; · iexact Hh0
    isplitl [Hh1]; · iexact Hh1
    iexact Hh2
  isplitl [HW]
  · icases HW with ⟨%W', HW⟩; iexists W'
    isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 4000000 in
/-- The body at a later point. -/
theorem sound_later (hk : Keeps m Good Out) (c : Dev nD) (t : Fin cfg0.N) (h0 : ¬t.val = 0) :
    bodyPre m Good Out c t ⊢ wp frame (wpE (defs₀ (F := F)) Variants.none c none) Set.univ (bodyAt0 t) (fun _ => bodyPost m Good Out c t) := by
  unfold bodyPre bodyPost bodyAt0
  simp only [before0_0, before0_1, before0_2, before0_3, before0_4, before0_5, before0_6, before0_7, before0_8, before0_9]
  rw [show (dats m Good c).Φ t.succ = PhiS m Good c (t.val + 1) t.isLt from rfl, PhiS_pos m Good c (t.val + 1) t.isLt (Nat.succ_ne_zero _),
    after0_0, after0_1, after0_2, after0_3, after0_4, after0_5, after0_6, after0_7, after0_8, after0_9]
  unfold Dat.owesAt Pipeline.owesWithin
  rw [show (dats m Good c).owed t.castSucc = 0 from rfl, show (dats m Good c).owed t.succ = 0 from rfl]
  rw [PhiS_castSucc, PhiS_pos m Good c _ _ h0, body_skip (hc := fun h => h0 ((hcondZ t).mp h))]
  iintro ⟨⟨⟨⟨%y0, %y1, %y2, %y3, %hg, HS0, HS1, HS2, HS3⟩, HS4, HS5, HS6, HS7, HS8, HS9, HS10⟩, Hg, Hq, Hh0, Hh1, Hh2⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, -, H10⟩⟩
  obtain ⟨L0, L1, L2, L3, L4, hrun, hcov, hgood, hout⟩ : ∃ L0 L1 L2 L3 L4, RunSpec m c t y0 y1 y2 y3 L0 L1 L2 L3 L4 ∧ (∀ y, ∃ p ∈ L0, y ∈ p.1.set)
      ∧ Good c (t.val + 1) (after0 y0 L1) (after1 y1 L2) (after2 y2 L3) (after3 y3 L4) ∧ Out c t (View.canon L0) := by
    by_cases hF : t.val % 16 = 0
    · exact ⟨_, _, _, _, _, fun K => (fAt m c t h0 hF y0 y1 y2 y3).2.2.2.2.property K, coverF m c t h0 hF y0 y1 y2 y3, hk.seq c t h0 hF y0 y1 y2 y3 hg⟩
    · by_cases hE : t.val % 2 = 0
      · exact ⟨_, _, _, _, _, fun K => (nAt m c t hE hF y0 y1 y2 y3).2.2.2.2.property K, coverN m c t hE hF y0 y1 y2 y3, hk.even c t hE hF y0 y1 y2 y3 hg⟩
      · exact ⟨_, _, _, _, _, fun K => (oAt m c t hE y0 y1 y2 y3).2.2.2.2.property K, coverO m c t hE y0 y1 y2 y3, hk.odd c t hE y0 y1 y2 y3 hg⟩
  iapply (compute_triple m Good Out c t (t.val + 1) y0 y1 y2 y3 L0 L1 L2 L3 L4 hrun hcov hgood hout _)
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [H9]; · iexact H9
  isplitl [HS5]; · iexact HS5
  isplitl [HS6]; · iexact HS6
  isplitl [HS7]; · iexact HS7
  isplitl [HS0]; · iexact HS0
  isplitl [HS1]; · iexact HS1
  isplitl [HS2]; · iexact HS2
  isplitl [HS3]; · iexact HS3
  isplitl [HS4]; · iexact HS4
  isplitl [H10]; · iexists _; iexact H10
  iintro ⟨H0, H1, H2, H5, H6, H7, H8, H9, HS5, HS6, HS7, HX, HS4, H10⟩
  isplitl [HX HS4 HS5 HS6 HS7 HS8 HS9 HS10 Hg Hq Hh0 Hh1 Hh2]
  · isplitl [HX HS4 HS5 HS6 HS7 HS8 HS9 HS10]
    · isplitl [HX]; · iexact HX
      isplitl [HS4]; · iexact HS4
      isplitl [HS5]; · iexact HS5
      isplitl [HS6]; · iexact HS6
      isplitl [HS7]; · iexact HS7
      isplitl [HS8]; · iexact HS8
      isplitl [HS9]; · iexact HS9
      iexact HS10
    isplitl [Hg]; · iexact Hg
    isplitl [Hq]; · iexact Hq
    isplitl [Hh0]; · iexact Hh0
    isplitl [Hh1]; · iexact Hh1
    iexact Hh2
  isplitl [HW]
  · iexists W
    isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hk : Keeps m Good Out) (c : Dev nD) :
    Pipeline.BodyObligationRel (dats (F := F) m Good c) (defs₀ (F := F)) Variants.none () Set.univ marked (Rl Out c) := fun t => by
  rw [bigSep_W0, bigSep_W0, defs₀_row]
  by_cases h0 : t.val = 0
  · exact triple_restated (sound_first m Good Out hk c t h0) rfl .rfl fun _ => .rfl
  · exact triple_restated (sound_later m Good Out hk c t h0) rfl .rfl fun _ => .rfl

/-- What the launch hands the region is the invariant before the first point. -/
theorem hin (c : Dev nD) : Pipeline.ΦD osem0 spec0 H0 (V m) c ⊢ (dats m Good c).Φ 0 := by
  rw [show (dats m Good c).Φ 0 = PhiS m Good c 0 (Nat.zero_le _) from rfl, PhiS_zero m Good c 0 _ rfl]
  try exact Idealize.SL.BI.Entails.refl _

/-- After the last point the invariant gives the launch's own back: the scratch buffers' contents are forgotten. -/
theorem hout (c : Dev nD) : (dats m Good c).Φ (Fin.last cfg0.N) ⊢ Pipeline.ΦD osem0 spec0 H0 (V m) c := by
  rw [show (dats m Good c).Φ (Fin.last cfg0.N) = PhiS m Good c (Fin.last cfg0.N).val (Nat.le_of_lt_succ (Fin.last cfg0.N).isLt) from rfl,
    PhiS_pos m Good c _ _ (by rw [Fin.val_last]; have : cfg0.N = 65 := N_0; omega), PhiD0_eq]
  iintro ⟨⟨⟨%y0, %y1, %y2, %y3, -, HS0, HS1, HS2, HS3⟩, HS4, HS5, HS6, HS7, HS8, HS9, HS10⟩, Hg, Hq, Hh0, Hh1, Hh2⟩
  isplitl [HS0 HS1 HS2 HS3 HS4 HS5 HS6 HS7 HS8 HS9 HS10]
  · (isplitl [HS0]; · iexists _; iexact HS0); (isplitl [HS1]; · iexists _; iexact HS1); (isplitl [HS2]; · iexists _; iexact HS2); (isplitl [HS3]; · iexists _; iexact HS3); (isplitl [HS4]; · iexact HS4)
    (isplitl [HS5]; · iexists _; iexact HS5); (isplitl [HS6]; · iexists _; iexact HS6); (isplitl [HS7]; · iexists _; iexact HS7); (isplitl [HS8]; · iexact HS8); (isplitl [HS9]; · iexact HS9)
    iexact HS10
  isplitl [Hg]; · iexact Hg
  isplitl [Hq]; · unfold sems; iexact Hq
  isplitl [Hh0]; · iexact Hh0
  isplitl [Hh1]; · iexact Hh1
  iexact Hh2

/-! ## The run and the frame -/

set_option maxHeartbeats 800000 in
/-- `main` up to the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data with the output window held to `Out`. -/
abbrev rdat (c : Dev nD) := (dats (F := F) m Good c).toRRel marked (Rl Out c)

-- the launch theorem's implicit arguments are found by unifying its conclusion with this one
set_option backward.isDefEq.respectTransparency.types false in
/-- Every execution ends with the pipeline's arrays as the proof data fold them, every other unscoped buffer as the region found it, and every semaphore
    counter at zero. -/
theorem run_main_quiescent (hk : Keeps m Good Out) :
    θ_run defs (onTc (τ := τ) (main (F := F))) (s₀ m ρ) (fun r => Pipeline.RDat.FramePost (cfgs 0) (rdat m Good Out) (V m) r ∧ r.2.sem = fun _ => 0) :=
  Pipeline.RDat.θ_run_frame_dma_shared (Q' := _) cfgs (0 : Fin 1) launch₀0 osem0 defs₀ Variants.none (rdat m Good Out) ownSemFacts0 H0 H0_sub m ρ main
    (hbody := fun c => (body_obligation m Good Out hk c).toRRel) (hq := fun _ _ _ => rfl)
    (howed := fun _ _ => rfl) (V := V m) (hmain := hmainD m Variants.none) (hA := A_eq m Good) (hin := hin m Good) (hout := hout m Good)

/-- What a run leaves in the argument arrays. -/
theorem args_of (r : PUnit × MemSt nD τ sig (Elt F)) (h : Pipeline.RDat.FramePost (cfgs 0) (rdat m Good Out) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  have e : (rdat m Good Out c).ArrAt 2 (Fin.last cfg0.N).val (r.2.mem ((c.tc : Thread nD τ).loc main_arg0)) := (h c).1 2
  ⟨(by rw [Pipeline.RDat.ArrAt_in _ 2 rfl] at e; exact e.trans (V_main_arg0 m c)), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c), ((h c).2 main_arg6 (Pipeline.mem_restRefs_of main_arg6 (by decide) (by decide))).trans (V_main_arg6 m c), ((h c).2 main_arg7 (Pipeline.mem_restRefs_of main_arg7 (by decide) (by decide))).trans (V_main_arg7 m c), ((h c).2 main_arg8 (Pipeline.mem_restRefs_of main_arg8 (by decide) (by decide))).trans (V_main_arg8 m c), ((h c).2 main_arg9 (Pipeline.mem_restRefs_of main_arg9 (by decide) (by decide))).trans (V_main_arg9 m c)⟩

/-- Saying nothing of the carried buffers and of the output. -/
theorem keeps_true : Keeps m (fun _ _ _ _ _ _ => True) (fun _ _ _ => True) :=
  ⟨fun _ _ _ _ _ => ⟨trivial, trivial⟩, fun _ _ _ _ _ _ _ _ _ => ⟨trivial, trivial⟩, fun _ _ _ _ _ _ _ _ _ => ⟨trivial, trivial⟩, fun _ _ _ _ _ _ _ _ => ⟨trivial, trivial⟩⟩

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨args_of m _ _ r h.1, h.2⟩) (run_main_quiescent m ρ _ _ (keeps_true m))

end Cert.Kernel2Ideal.Hand

end
-- ==== Proof.SwaTransfer.lean ====
/- The printed attention kernel and the one printed for the ideal instance are the same text but for the two named constants; where a named
   constant is read as the word it was printed from, the frame proved for the one is the other's. -/
module

public import proofs.«01_k».proof.Defs
public import proofs.«01_k».proof.Proof.Gen.Kernel2
public import proofs.«01_k».proof.Proof.Gen.Kernel2Ideal
public import proofs.«01_k».proof.Proof.SwaLaunch

@[expose] public section

set_option maxRecDepth 100000

namespace Cert.Proof.Swa

open Idealize.ShloMosaic Idealize.SL.Sem
open Cert.Kernel2.Gen Cert.Kernel2Ideal.Gen

/-- A named constant read as the word it was printed from. -/
abbrev plain {F : FTy → Type} [FloatOps F] : Named F where
  named _ _ {φ} bits := FloatOps.ofBits φ bits

attribute [local instance] plain

variable {F : FTy → Type} [FloatOps F]

set_option maxHeartbeats 4000000 in
/-- The two programs' body tables are equal, -/
theorem defs₀_eq : Cert.Kernel2.defs₀ (F := F) = Cert.Kernel2Ideal.defs₀ (F := F) := by
  refine congrArg Defs.onTc (funext fun x => funext fun a => ?_)
  match x, a with
  | ⟨0, _⟩, (t, s) => exact rfl

/-- and so are the tables with the pipeline's labels, -/
theorem defs_eq : Cert.Kernel2.defs (F := F) = Cert.Kernel2Ideal.defs (F := F) := congrArg (Pipeline.defs _) defs₀_eq

set_option maxHeartbeats 4000000 in
/-- and so are the entry functions. -/
theorem main_eq : Cert.Kernel2.main (F := F) = Cert.Kernel2Ideal.main (F := F) := rfl

/-- The frame of the printed kernel. -/
theorem frame_kernel : Cert.quiescent_Kernel2 := fun m ρ _ => by
  rw [defs_eq, main_eq]
  exact Cert.Kernel2Ideal.Hand.frame (F := Bits) m ρ

/-- The frame of the kernel at the ideal instance. -/
theorem frame_kernelIdeal : Cert.quiescent_Kernel2Ideal := fun m ρ _ => Cert.Kernel2Ideal.Hand.frame (F := Ideal) m ρ

/-- The two named constants hold what the kernel's words were printed from. -/
theorem preserves : Cert.preserves_Kernel2_Kernel2Ideal :=
  ⟨IdealRules.named_const.statement Cert.Kernel2Ideal.κ "log2e_8" .f32 0x3E38AA3B#32 (((8 * (Real.log 2))⁻¹ : ℝ) : EReal) rfl,
    IdealRules.named_const.statement Cert.Kernel2Ideal.κ "log2e" .f32 0x3FB8AA3B#32 (((Real.log 2)⁻¹ : ℝ) : EReal) rfl⟩

end Cert.Proof.Swa
-- ==== Proof.lean ====
/- The proof of the certificate's claim: of both layers the three programs run quiescently and the idealised kernel is the kernel, and the gMLP layer's
   result is its reference's over the extended reals when the norm's gains and the mixed channels' projection columns are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Transfer
public import proofs.«01_k».proof.Proof.Final
public import proofs.«01_k».proof.Proof.SwaTransfer
public import Idealize.ShloMosaic.Adequacy
public import Idealize.ShloMosaic.Init

@[expose] public section

noncomputable section

namespace Cert.Proof

open Idealize.ShloMosaic Idealize.SL.Sem

/-- The reference's arguments end unchanged and its counters at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

/-- Both runs end with the reference's result, when the precondition holds. -/
theorem algebraic : Cert.algebraic_KernelIdeal_ReferenceIdeal_pre_finite (hPre_finite := Cert.KernelIdeal.Hand.preFacts) := by
  intro m g m' g' hpre hagree
  refine ⟨fun c => (Cert.KernelIdeal.Hand.dats m 0 c).arrAt 6 _, Cert.KernelIdeal.Hand.run_value m g, ?_⟩
  refine (θ_run Cert.ReferenceIdeal.defs _ _).mono (fun r h c => ⟨(h c).1.trans ?_, (h c).2⟩) (Cert.ReferenceIdeal.Value.run (F := Ideal) m' g')
  refine (Cert.ReferenceIdeal.Hand.res_eq m' c).trans (Eq.trans ?_ (Cert.KernelIdeal.Hand.final_eq (hp := Cert.KernelIdeal.Hand.preFacts) m hpre c).symm)
  obtain ⟨h0, h1, h2, h3, h4, h5, h6, h7⟩ := hagree c
  rw [h0, h1, h2, h3, h4, h5, h6, h7]

/-- The attention layer's reference leaves its arguments unchanged and its counters at zero. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩) (Cert.Reference2Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.KernelIdeal.Hand.preFacts,
  frame_kernel, fun m ρ _ => Cert.KernelIdeal.Hand.frame (F := Ideal) m ρ, fun m ρ _ => Cert.KernelIdeal.Hand.frame (F := Ideal) m ρ,
  fun m ρ _ => frame_reference m ρ trivial, fun m ρ _ => frame_reference m ρ trivial,
  Swa.frame_kernel, Swa.frame_kernelIdeal, frame_reference2, trivial, algebraic, Swa.preserves⟩

end Cert.Proof

end
